-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1536, 768]⟩ ⟨2, ![1536, 24576]⟩ 1 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![768, 1536]⟩ ⟨2, ![24576, 1536]⟩ 0 32 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v13) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1536x768 : Shape := ⟨2, ![1536, 768]⟩
abbrev S768x1536 : Shape := ⟨2, ![768, 1536]⟩
abbrev S1536x1536 : Shape := ⟨2, ![1536, 1536]⟩
abbrev S31x24x1536 : Shape := ⟨3, ![31, 24, 1536]⟩
abbrev S31 : Shape := ⟨1, ![31]⟩
abbrev S_ : Shape := ⟨0, ![]⟩
abbrev S1 : Shape := ⟨1, ![1]⟩
abbrev S1x24x1536 : Shape := ⟨3, ![1, 24, 1536]⟩
abbrev S24x1536 : Shape := ⟨2, ![24, 1536]⟩

abbrev nBuf : Space → Nat
  | .hbm => 3
  | .vmem => 5
  | .smem => 0
  | _ => 0

abbrev bufTy : (tb : Table) → Fin (tcTables nBuf tb) → BufTy
  | .hbm, ⟨0, _⟩ => ⟨S1536x768, .f32⟩
  | .hbm, ⟨1, _⟩ => ⟨S768x1536, .f32⟩
  | .hbm, ⟨2, _⟩ => ⟨S1536x1536, .f32⟩
  | .local _ .vmem, ⟨0, _⟩ => ⟨S1536x768, .f32⟩
  | .local _ .vmem, ⟨1, _⟩ => ⟨S768x1536, .f32⟩
  | .local _ .vmem, ⟨2, _⟩ => ⟨S1536x1536, .f32⟩
  | .local _ .vmem, ⟨3, _⟩ => ⟨S31x24x1536, .f32⟩
  | .local _ .vmem, ⟨4, _⟩ => ⟨S31x24x1536, .f32⟩
  | _, _ => ⟨S1536x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 127 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | ⟨108, _⟩ => true
  | ⟨109, _⟩ => true
  | ⟨110, _⟩ => true
  | ⟨111, _⟩ => true
  | ⟨112, _⟩ => true
  | ⟨113, _⟩ => true
  | ⟨114, _⟩ => true
  | ⟨115, _⟩ => true
  | ⟨116, _⟩ => true
  | ⟨117, _⟩ => true
  | ⟨118, _⟩ => true
  | ⟨119, _⟩ => true
  | ⟨120, _⟩ => true
  | ⟨121, _⟩ => true
  | ⟨122, _⟩ => true
  | ⟨123, _⟩ => true
  | ⟨124, _⟩ => true
  | ⟨125, _⟩ => true
  | ⟨126, _⟩ => true
  | _ => false

abbrev sig : RefSig :=
  (ofTc nBuf bufTy 1 127 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_sem0_0 : DmaSem sig := 0
abbrev cc0_sem1_0 : DmaSem sig := 1
abbrev cc0_sem2_0 : DmaSem sig := 2
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v3 : BitVec 32 := Scalar.addi v2 c31_i32
  let c32_i32_0 : BitVec 32 := 32#32
  let v4 : BitVec 32 := Scalar.remsi v3 c32_i32_0
  let c1_i32_4 : BitVec 32 := 1#32
  let v8 : BitVec 32 := Scalar.muli v4 c1_i32_4
  let v9 : BitVec 32 := Scalar.addi c0_i32 v8
  v9.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1 : BitVec 32 := 1#32
  let v5 : BitVec 32 := Scalar.addi v2 c1_i32_1
  let c32_i32_2 : BitVec 32 := 32#32
  let v6 : BitVec 32 := Scalar.remsi v5 c32_i32_2
  let c1_i32_6 : BitVec 32 := 1#32
  let v10 : BitVec 32 := Scalar.muli v6 c1_i32_6
  let v11 : BitVec 32 := Scalar.addi c0_i32_7 v10
  v11.toNat
def k0_off1 (d0 : Dev nD) (c0_i32_13 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v18 : BitVec 32 := Scalar.subi v2 c0_i32_13
  let c32_i32_14 : BitVec 32 := 32#32
  let v19 : BitVec 32 := Scalar.addi v18 c32_i32_14
  let c32_i32_15 : BitVec 32 := 32#32
  let v20 : BitVec 32 := Scalar.remsi v19 c32_i32_15
  let c48_i32 : BitVec 32 := 48#32
  let v30 : BitVec 32 := Scalar.muli v20 c48_i32
  let c0_i32_33 : BitVec 32 := 0#32
  ![v30.toNat, 0]
def k0_dev3 (d0 : Dev nD) : Nat :=
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1 : BitVec 32 := 1#32
  let v5 : BitVec 32 := Scalar.addi v2 c1_i32_1
  let c32_i32_2 : BitVec 32 := 32#32
  let v6 : BitVec 32 := Scalar.remsi v5 c32_i32_2
  let c1_i32_29 : BitVec 32 := 1#32
  let v33 : BitVec 32 := Scalar.muli v6 c1_i32_29
  let v34 : BitVec 32 := Scalar.addi c0_i32_30 v33
  v34.toNat
def k0_off2 (d0 : Dev nD) (c0_i32_20 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v25 : BitVec 32 := Scalar.addi v2 c0_i32_20
  let c32_i32_21 : BitVec 32 := 32#32
  let v26 : BitVec 32 := Scalar.remsi v25 c32_i32_21
  let c48_i32_25 : BitVec 32 := 48#32
  let v31 : BitVec 32 := Scalar.muli v26 c48_i32_25
  let c24_i32 : BitVec 32 := 24#32
  let v32 : BitVec 32 := Scalar.addi v31 c24_i32
  let c0_i32_41 : BitVec 32 := 0#32
  ![v32.toNat, 0]
def k0_dev4 (d0 : Dev nD) : Nat :=
  let c0_i32_38 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v3 : BitVec 32 := Scalar.addi v2 c31_i32
  let c32_i32_0 : BitVec 32 := 32#32
  let v4 : BitVec 32 := Scalar.remsi v3 c32_i32_0
  let c1_i32_37 : BitVec 32 := 1#32
  let v42 : BitVec 32 := Scalar.muli v4 c1_i32_37
  let v43 : BitVec 32 := Scalar.addi c0_i32_38 v42
  v43.toNat
def k0_off3 (d0 : Dev nD) (c0_i32_16 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v21 : BitVec 32 := Scalar.subi v2 c0_i32_16
  let c1_i32_17 : BitVec 32 := 1#32
  let v22 : BitVec 32 := Scalar.subi v21 c1_i32_17
  let c32_i32_18 : BitVec 32 := 32#32
  let v23 : BitVec 32 := Scalar.addi v22 c32_i32_18
  let c32_i32_19 : BitVec 32 := 32#32
  let v24 : BitVec 32 := Scalar.remsi v23 c32_i32_19
  let c48_i32_50 : BitVec 32 := 48#32
  let v58 : BitVec 32 := Scalar.muli v24 c48_i32_50
  let v59 : Index := Scalar.indexCast v58
  let c0_51 : Index := 0#32
  ![v59.toNat, 0]
def k0_off4 (d0 : Dev nD) (c0_i32_22 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v27 : BitVec 32 := Scalar.addi v2 c0_i32_22
  let c1_i32_23 : BitVec 32 := 1#32
  let v28 : BitVec 32 := Scalar.addi v27 c1_i32_23
  let c32_i32_24 : BitVec 32 := 32#32
  let v29 : BitVec 32 := Scalar.remsi v28 c32_i32_24
  let c48_i32_65 : BitVec 32 := 48#32
  let v75 : BitVec 32 := Scalar.muli v29 c48_i32_65
  let c24_i32_66 : BitVec 32 := 24#32
  let v76 : BitVec 32 := Scalar.addi v75 c24_i32_66
  let v77 : Index := Scalar.indexCast v76
  let c0_67 : Index := 0#32
  ![v77.toNat, 0]
def k0_dev5 (d0 : Dev nD) : Nat :=
  let c0_i32_93 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1 : BitVec 32 := 1#32
  let v5 : BitVec 32 := Scalar.addi v2 c1_i32_1
  let c32_i32_2 : BitVec 32 := 32#32
  let v6 : BitVec 32 := Scalar.remsi v5 c32_i32_2
  let c1_i32_92 : BitVec 32 := 1#32
  let v102 : BitVec 32 := Scalar.muli v6 c1_i32_92
  let v103 : BitVec 32 := Scalar.addi c0_i32_93 v102
  v103.toNat
def k0_dev6 (d0 : Dev nD) : Nat :=
  let c0_i32_101 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v3 : BitVec 32 := Scalar.addi v2 c31_i32
  let c32_i32_0 : BitVec 32 := 32#32
  let v4 : BitVec 32 := Scalar.remsi v3 c32_i32_0
  let c1_i32_100 : BitVec 32 := 1#32
  let v111 : BitVec 32 := Scalar.muli v4 c1_i32_100
  let v112 : BitVec 32 := Scalar.addi c0_i32_101 v111
  v112.toNat
def k0_dev7 (d0 : Dev nD) : Nat :=
  let c0_i32_169 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1 : BitVec 32 := 1#32
  let v5 : BitVec 32 := Scalar.addi v2 c1_i32_1
  let c32_i32_2 : BitVec 32 := 32#32
  let v6 : BitVec 32 := Scalar.remsi v5 c32_i32_2
  let c1_i32_168 : BitVec 32 := 1#32
  let v181 : BitVec 32 := Scalar.muli v6 c1_i32_168
  let v182 : BitVec 32 := Scalar.addi c0_i32_169 v181
  v182.toNat
def k0_dev8 (d0 : Dev nD) : Nat :=
  let c0_i32_177 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v3 : BitVec 32 := Scalar.addi v2 c31_i32
  let c32_i32_0 : BitVec 32 := 32#32
  let v4 : BitVec 32 := Scalar.remsi v3 c32_i32_0
  let c1_i32_176 : BitVec 32 := 1#32
  let v190 : BitVec 32 := Scalar.muli v4 c1_i32_176
  let v191 : BitVec 32 := Scalar.addi c0_i32_177 v190
  v191.toNat
def k0_dev9 (d0 : Dev nD) : Nat :=
  let c0_i32_244 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1 : BitVec 32 := 1#32
  let v5 : BitVec 32 := Scalar.addi v2 c1_i32_1
  let c32_i32_2 : BitVec 32 := 32#32
  let v6 : BitVec 32 := Scalar.remsi v5 c32_i32_2
  let c1_i32_243 : BitVec 32 := 1#32
  let v260 : BitVec 32 := Scalar.muli v6 c1_i32_243
  let v261 : BitVec 32 := Scalar.addi c0_i32_244 v260
  v261.toNat
def k0_dev10 (d0 : Dev nD) : Nat :=
  let c0_i32_252 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v3 : BitVec 32 := Scalar.addi v2 c31_i32
  let c32_i32_0 : BitVec 32 := 32#32
  let v4 : BitVec 32 := Scalar.remsi v3 c32_i32_0
  let c1_i32_251 : BitVec 32 := 1#32
  let v269 : BitVec 32 := Scalar.muli v4 c1_i32_251
  let v270 : BitVec 32 := Scalar.addi c0_i32_252 v269
  v270.toNat
def k0_dev11 (d0 : Dev nD) : Nat :=
  let c0_i32_319 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1 : BitVec 32 := 1#32
  let v5 : BitVec 32 := Scalar.addi v2 c1_i32_1
  let c32_i32_2 : BitVec 32 := 32#32
  let v6 : BitVec 32 := Scalar.remsi v5 c32_i32_2
  let c1_i32_318 : BitVec 32 := 1#32
  let v339 : BitVec 32 := Scalar.muli v6 c1_i32_318
  let v340 : BitVec 32 := Scalar.addi c0_i32_319 v339
  v340.toNat
def k0_dev12 (d0 : Dev nD) : Nat :=
  let c0_i32_327 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v3 : BitVec 32 := Scalar.addi v2 c31_i32
  let c32_i32_0 : BitVec 32 := 32#32
  let v4 : BitVec 32 := Scalar.remsi v3 c32_i32_0
  let c1_i32_326 : BitVec 32 := 1#32
  let v348 : BitVec 32 := Scalar.muli v4 c1_i32_326
  let v349 : BitVec 32 := Scalar.addi c0_i32_327 v348
  v349.toNat
def k0_dev13 (d0 : Dev nD) : Nat :=
  let c0_i32_394 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1 : BitVec 32 := 1#32
  let v5 : BitVec 32 := Scalar.addi v2 c1_i32_1
  let c32_i32_2 : BitVec 32 := 32#32
  let v6 : BitVec 32 := Scalar.remsi v5 c32_i32_2
  let c1_i32_393 : BitVec 32 := 1#32
  let v418 : BitVec 32 := Scalar.muli v6 c1_i32_393
  let v419 : BitVec 32 := Scalar.addi c0_i32_394 v418
  v419.toNat
def k0_dev14 (d0 : Dev nD) : Nat :=
  let c0_i32_402 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v3 : BitVec 32 := Scalar.addi v2 c31_i32
  let c32_i32_0 : BitVec 32 := 32#32
  let v4 : BitVec 32 := Scalar.remsi v3 c32_i32_0
  let c1_i32_401 : BitVec 32 := 1#32
  let v427 : BitVec 32 := Scalar.muli v4 c1_i32_401
  let v428 : BitVec 32 := Scalar.addi c0_i32_402 v427
  v428.toNat
def k0_dev15 (d0 : Dev nD) : Nat :=
  let c0_i32_469 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1 : BitVec 32 := 1#32
  let v5 : BitVec 32 := Scalar.addi v2 c1_i32_1
  let c32_i32_2 : BitVec 32 := 32#32
  let v6 : BitVec 32 := Scalar.remsi v5 c32_i32_2
  let c1_i32_468 : BitVec 32 := 1#32
  let v497 : BitVec 32 := Scalar.muli v6 c1_i32_468
  let v498 : BitVec 32 := Scalar.addi c0_i32_469 v497
  v498.toNat
def k0_dev16 (d0 : Dev nD) : Nat :=
  let c0_i32_477 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v3 : BitVec 32 := Scalar.addi v2 c31_i32
  let c32_i32_0 : BitVec 32 := 32#32
  let v4 : BitVec 32 := Scalar.remsi v3 c32_i32_0
  let c1_i32_476 : BitVec 32 := 1#32
  let v506 : BitVec 32 := Scalar.muli v4 c1_i32_476
  let v507 : BitVec 32 := Scalar.addi c0_i32_477 v506
  v507.toNat
def k0_dev17 (d0 : Dev nD) : Nat :=
  let c0_i32_544 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1 : BitVec 32 := 1#32
  let v5 : BitVec 32 := Scalar.addi v2 c1_i32_1
  let c32_i32_2 : BitVec 32 := 32#32
  let v6 : BitVec 32 := Scalar.remsi v5 c32_i32_2
  let c1_i32_543 : BitVec 32 := 1#32
  let v576 : BitVec 32 := Scalar.muli v6 c1_i32_543
  let v577 : BitVec 32 := Scalar.addi c0_i32_544 v576
  v577.toNat
def k0_dev18 (d0 : Dev nD) : Nat :=
  let c0_i32_552 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v3 : BitVec 32 := Scalar.addi v2 c31_i32
  let c32_i32_0 : BitVec 32 := 32#32
  let v4 : BitVec 32 := Scalar.remsi v3 c32_i32_0
  let c1_i32_551 : BitVec 32 := 1#32
  let v585 : BitVec 32 := Scalar.muli v4 c1_i32_551
  let v586 : BitVec 32 := Scalar.addi c0_i32_552 v585
  v586.toNat
def k0_dev19 (d0 : Dev nD) : Nat :=
  let c0_i32_619 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1 : BitVec 32 := 1#32
  let v5 : BitVec 32 := Scalar.addi v2 c1_i32_1
  let c32_i32_2 : BitVec 32 := 32#32
  let v6 : BitVec 32 := Scalar.remsi v5 c32_i32_2
  let c1_i32_618 : BitVec 32 := 1#32
  let v655 : BitVec 32 := Scalar.muli v6 c1_i32_618
  let v656 : BitVec 32 := Scalar.addi c0_i32_619 v655
  v656.toNat
def k0_dev20 (d0 : Dev nD) : Nat :=
  let c0_i32_627 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v3 : BitVec 32 := Scalar.addi v2 c31_i32
  let c32_i32_0 : BitVec 32 := 32#32
  let v4 : BitVec 32 := Scalar.remsi v3 c32_i32_0
  let c1_i32_626 : BitVec 32 := 1#32
  let v664 : BitVec 32 := Scalar.muli v4 c1_i32_626
  let v665 : BitVec 32 := Scalar.addi c0_i32_627 v664
  v665.toNat
def k0_dev21 (d0 : Dev nD) : Nat :=
  let c0_i32_694 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1 : BitVec 32 := 1#32
  let v5 : BitVec 32 := Scalar.addi v2 c1_i32_1
  let c32_i32_2 : BitVec 32 := 32#32
  let v6 : BitVec 32 := Scalar.remsi v5 c32_i32_2
  let c1_i32_693 : BitVec 32 := 1#32
  let v734 : BitVec 32 := Scalar.muli v6 c1_i32_693
  let v735 : BitVec 32 := Scalar.addi c0_i32_694 v734
  v735.toNat
def k0_dev22 (d0 : Dev nD) : Nat :=
  let c0_i32_702 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v3 : BitVec 32 := Scalar.addi v2 c31_i32
  let c32_i32_0 : BitVec 32 := 32#32
  let v4 : BitVec 32 := Scalar.remsi v3 c32_i32_0
  let c1_i32_701 : BitVec 32 := 1#32
  let v743 : BitVec 32 := Scalar.muli v4 c1_i32_701
  let v744 : BitVec 32 := Scalar.addi c0_i32_702 v743
  v744.toNat
def k0_dev23 (d0 : Dev nD) : Nat :=
  let c0_i32_769 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1 : BitVec 32 := 1#32
  let v5 : BitVec 32 := Scalar.addi v2 c1_i32_1
  let c32_i32_2 : BitVec 32 := 32#32
  let v6 : BitVec 32 := Scalar.remsi v5 c32_i32_2
  let c1_i32_768 : BitVec 32 := 1#32
  let v813 : BitVec 32 := Scalar.muli v6 c1_i32_768
  let v814 : BitVec 32 := Scalar.addi c0_i32_769 v813
  v814.toNat
def k0_dev24 (d0 : Dev nD) : Nat :=
  let c0_i32_777 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v3 : BitVec 32 := Scalar.addi v2 c31_i32
  let c32_i32_0 : BitVec 32 := 32#32
  let v4 : BitVec 32 := Scalar.remsi v3 c32_i32_0
  let c1_i32_776 : BitVec 32 := 1#32
  let v822 : BitVec 32 := Scalar.muli v4 c1_i32_776
  let v823 : BitVec 32 := Scalar.addi c0_i32_777 v822
  v823.toNat
def k0_dev25 (d0 : Dev nD) : Nat :=
  let c0_i32_844 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1 : BitVec 32 := 1#32
  let v5 : BitVec 32 := Scalar.addi v2 c1_i32_1
  let c32_i32_2 : BitVec 32 := 32#32
  let v6 : BitVec 32 := Scalar.remsi v5 c32_i32_2
  let c1_i32_843 : BitVec 32 := 1#32
  let v892 : BitVec 32 := Scalar.muli v6 c1_i32_843
  let v893 : BitVec 32 := Scalar.addi c0_i32_844 v892
  v893.toNat
def k0_dev26 (d0 : Dev nD) : Nat :=
  let c0_i32_852 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v3 : BitVec 32 := Scalar.addi v2 c31_i32
  let c32_i32_0 : BitVec 32 := 32#32
  let v4 : BitVec 32 := Scalar.remsi v3 c32_i32_0
  let c1_i32_851 : BitVec 32 := 1#32
  let v901 : BitVec 32 := Scalar.muli v4 c1_i32_851
  let v902 : BitVec 32 := Scalar.addi c0_i32_852 v901
  v902.toNat
def k0_dev27 (d0 : Dev nD) : Nat :=
  let c0_i32_919 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1 : BitVec 32 := 1#32
  let v5 : BitVec 32 := Scalar.addi v2 c1_i32_1
  let c32_i32_2 : BitVec 32 := 32#32
  let v6 : BitVec 32 := Scalar.remsi v5 c32_i32_2
  let c1_i32_918 : BitVec 32 := 1#32
  let v971 : BitVec 32 := Scalar.muli v6 c1_i32_918
  let v972 : BitVec 32 := Scalar.addi c0_i32_919 v971
  v972.toNat
def k0_dev28 (d0 : Dev nD) : Nat :=
  let c0_i32_927 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v3 : BitVec 32 := Scalar.addi v2 c31_i32
  let c32_i32_0 : BitVec 32 := 32#32
  let v4 : BitVec 32 := Scalar.remsi v3 c32_i32_0
  let c1_i32_926 : BitVec 32 := 1#32
  let v980 : BitVec 32 := Scalar.muli v4 c1_i32_926
  let v981 : BitVec 32 := Scalar.addi c0_i32_927 v980
  v981.toNat
def k0_dev29 (d0 : Dev nD) : Nat :=
  let c0_i32_994 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1 : BitVec 32 := 1#32
  let v5 : BitVec 32 := Scalar.addi v2 c1_i32_1
  let c32_i32_2 : BitVec 32 := 32#32
  let v6 : BitVec 32 := Scalar.remsi v5 c32_i32_2
  let c1_i32_993 : BitVec 32 := 1#32
  let v1050 : BitVec 32 := Scalar.muli v6 c1_i32_993
  let v1051 : BitVec 32 := Scalar.addi c0_i32_994 v1050
  v1051.toNat
def k0_dev30 (d0 : Dev nD) : Nat :=
  let c0_i32_1002 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v3 : BitVec 32 := Scalar.addi v2 c31_i32
  let c32_i32_0 : BitVec 32 := 32#32
  let v4 : BitVec 32 := Scalar.remsi v3 c32_i32_0
  let c1_i32_1001 : BitVec 32 := 1#32
  let v1059 : BitVec 32 := Scalar.muli v4 c1_i32_1001
  let v1060 : BitVec 32 := Scalar.addi c0_i32_1002 v1059
  v1060.toNat
def k0_dev31 (d0 : Dev nD) : Nat :=
  let c0_i32_1069 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1 : BitVec 32 := 1#32
  let v5 : BitVec 32 := Scalar.addi v2 c1_i32_1
  let c32_i32_2 : BitVec 32 := 32#32
  let v6 : BitVec 32 := Scalar.remsi v5 c32_i32_2
  let c1_i32_1068 : BitVec 32 := 1#32
  let v1129 : BitVec 32 := Scalar.muli v6 c1_i32_1068
  let v1130 : BitVec 32 := Scalar.addi c0_i32_1069 v1129
  v1130.toNat
def k0_dev32 (d0 : Dev nD) : Nat :=
  let c0_i32_1077 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v3 : BitVec 32 := Scalar.addi v2 c31_i32
  let c32_i32_0 : BitVec 32 := 32#32
  let v4 : BitVec 32 := Scalar.remsi v3 c32_i32_0
  let c1_i32_1076 : BitVec 32 := 1#32
  let v1138 : BitVec 32 := Scalar.muli v4 c1_i32_1076
  let v1139 : BitVec 32 := Scalar.addi c0_i32_1077 v1138
  v1139.toNat
def k0_dev33 (d0 : Dev nD) : Nat :=
  let c0_i32_1144 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1 : BitVec 32 := 1#32
  let v5 : BitVec 32 := Scalar.addi v2 c1_i32_1
  let c32_i32_2 : BitVec 32 := 32#32
  let v6 : BitVec 32 := Scalar.remsi v5 c32_i32_2
  let c1_i32_1143 : BitVec 32 := 1#32
  let v1208 : BitVec 32 := Scalar.muli v6 c1_i32_1143
  let v1209 : BitVec 32 := Scalar.addi c0_i32_1144 v1208
  v1209.toNat
def k0_dev34 (d0 : Dev nD) : Nat :=
  let c0_i32_1152 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v3 : BitVec 32 := Scalar.addi v2 c31_i32
  let c32_i32_0 : BitVec 32 := 32#32
  let v4 : BitVec 32 := Scalar.remsi v3 c32_i32_0
  let c1_i32_1151 : BitVec 32 := 1#32
  let v1217 : BitVec 32 := Scalar.muli v4 c1_i32_1151
  let v1218 : BitVec 32 := Scalar.addi c0_i32_1152 v1217
  v1218.toNat
def k0_dev35 (d0 : Dev nD) : Nat :=
  let c0_i32_1219 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1 : BitVec 32 := 1#32
  let v5 : BitVec 32 := Scalar.addi v2 c1_i32_1
  let c32_i32_2 : BitVec 32 := 32#32
  let v6 : BitVec 32 := Scalar.remsi v5 c32_i32_2
  let c1_i32_1218 : BitVec 32 := 1#32
  let v1287 : BitVec 32 := Scalar.muli v6 c1_i32_1218
  let v1288 : BitVec 32 := Scalar.addi c0_i32_1219 v1287
  v1288.toNat
def k0_dev36 (d0 : Dev nD) : Nat :=
  let c0_i32_1227 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v3 : BitVec 32 := Scalar.addi v2 c31_i32
  let c32_i32_0 : BitVec 32 := 32#32
  let v4 : BitVec 32 := Scalar.remsi v3 c32_i32_0
  let c1_i32_1226 : BitVec 32 := 1#32
  let v1296 : BitVec 32 := Scalar.muli v4 c1_i32_1226
  let v1297 : BitVec 32 := Scalar.addi c0_i32_1227 v1296
  v1297.toNat
def k0_dev37 (d0 : Dev nD) : Nat :=
  let c0_i32_1294 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1 : BitVec 32 := 1#32
  let v5 : BitVec 32 := Scalar.addi v2 c1_i32_1
  let c32_i32_2 : BitVec 32 := 32#32
  let v6 : BitVec 32 := Scalar.remsi v5 c32_i32_2
  let c1_i32_1293 : BitVec 32 := 1#32
  let v1366 : BitVec 32 := Scalar.muli v6 c1_i32_1293
  let v1367 : BitVec 32 := Scalar.addi c0_i32_1294 v1366
  v1367.toNat
def k0_dev38 (d0 : Dev nD) : Nat :=
  let c0_i32_1302 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v3 : BitVec 32 := Scalar.addi v2 c31_i32
  let c32_i32_0 : BitVec 32 := 32#32
  let v4 : BitVec 32 := Scalar.remsi v3 c32_i32_0
  let c1_i32_1301 : BitVec 32 := 1#32
  let v1375 : BitVec 32 := Scalar.muli v4 c1_i32_1301
  let v1376 : BitVec 32 := Scalar.addi c0_i32_1302 v1375
  v1376.toNat
def k0_dev39 (d0 : Dev nD) : Nat :=
  let c0_i32_1369 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1 : BitVec 32 := 1#32
  let v5 : BitVec 32 := Scalar.addi v2 c1_i32_1
  let c32_i32_2 : BitVec 32 := 32#32
  let v6 : BitVec 32 := Scalar.remsi v5 c32_i32_2
  let c1_i32_1368 : BitVec 32 := 1#32
  let v1445 : BitVec 32 := Scalar.muli v6 c1_i32_1368
  let v1446 : BitVec 32 := Scalar.addi c0_i32_1369 v1445
  v1446.toNat
def k0_dev40 (d0 : Dev nD) : Nat :=
  let c0_i32_1377 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v3 : BitVec 32 := Scalar.addi v2 c31_i32
  let c32_i32_0 : BitVec 32 := 32#32
  let v4 : BitVec 32 := Scalar.remsi v3 c32_i32_0
  let c1_i32_1376 : BitVec 32 := 1#32
  let v1454 : BitVec 32 := Scalar.muli v4 c1_i32_1376
  let v1455 : BitVec 32 := Scalar.addi c0_i32_1377 v1454
  v1455.toNat
def k0_dev41 (d0 : Dev nD) : Nat :=
  let c0_i32_1444 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1 : BitVec 32 := 1#32
  let v5 : BitVec 32 := Scalar.addi v2 c1_i32_1
  let c32_i32_2 : BitVec 32 := 32#32
  let v6 : BitVec 32 := Scalar.remsi v5 c32_i32_2
  let c1_i32_1443 : BitVec 32 := 1#32
  let v1524 : BitVec 32 := Scalar.muli v6 c1_i32_1443
  let v1525 : BitVec 32 := Scalar.addi c0_i32_1444 v1524
  v1525.toNat
def k0_dev42 (d0 : Dev nD) : Nat :=
  let c0_i32_1452 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v3 : BitVec 32 := Scalar.addi v2 c31_i32
  let c32_i32_0 : BitVec 32 := 32#32
  let v4 : BitVec 32 := Scalar.remsi v3 c32_i32_0
  let c1_i32_1451 : BitVec 32 := 1#32
  let v1533 : BitVec 32 := Scalar.muli v4 c1_i32_1451
  let v1534 : BitVec 32 := Scalar.addi c0_i32_1452 v1533
  v1534.toNat
def k0_dev43 (d0 : Dev nD) : Nat :=
  let c0_i32_1519 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1 : BitVec 32 := 1#32
  let v5 : BitVec 32 := Scalar.addi v2 c1_i32_1
  let c32_i32_2 : BitVec 32 := 32#32
  let v6 : BitVec 32 := Scalar.remsi v5 c32_i32_2
  let c1_i32_1518 : BitVec 32 := 1#32
  let v1603 : BitVec 32 := Scalar.muli v6 c1_i32_1518
  let v1604 : BitVec 32 := Scalar.addi c0_i32_1519 v1603
  v1604.toNat
def k0_dev44 (d0 : Dev nD) : Nat :=
  let c0_i32_1527 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v3 : BitVec 32 := Scalar.addi v2 c31_i32
  let c32_i32_0 : BitVec 32 := 32#32
  let v4 : BitVec 32 := Scalar.remsi v3 c32_i32_0
  let c1_i32_1526 : BitVec 32 := 1#32
  let v1612 : BitVec 32 := Scalar.muli v4 c1_i32_1526
  let v1613 : BitVec 32 := Scalar.addi c0_i32_1527 v1612
  v1613.toNat
def k0_dev45 (d0 : Dev nD) : Nat :=
  let c0_i32_1594 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1 : BitVec 32 := 1#32
  let v5 : BitVec 32 := Scalar.addi v2 c1_i32_1
  let c32_i32_2 : BitVec 32 := 32#32
  let v6 : BitVec 32 := Scalar.remsi v5 c32_i32_2
  let c1_i32_1593 : BitVec 32 := 1#32
  let v1682 : BitVec 32 := Scalar.muli v6 c1_i32_1593
  let v1683 : BitVec 32 := Scalar.addi c0_i32_1594 v1682
  v1683.toNat
def k0_dev46 (d0 : Dev nD) : Nat :=
  let c0_i32_1602 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v3 : BitVec 32 := Scalar.addi v2 c31_i32
  let c32_i32_0 : BitVec 32 := 32#32
  let v4 : BitVec 32 := Scalar.remsi v3 c32_i32_0
  let c1_i32_1601 : BitVec 32 := 1#32
  let v1691 : BitVec 32 := Scalar.muli v4 c1_i32_1601
  let v1692 : BitVec 32 := Scalar.addi c0_i32_1602 v1691
  v1692.toNat
def k0_dev47 (d0 : Dev nD) : Nat :=
  let c0_i32_1669 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1 : BitVec 32 := 1#32
  let v5 : BitVec 32 := Scalar.addi v2 c1_i32_1
  let c32_i32_2 : BitVec 32 := 32#32
  let v6 : BitVec 32 := Scalar.remsi v5 c32_i32_2
  let c1_i32_1668 : BitVec 32 := 1#32
  let v1761 : BitVec 32 := Scalar.muli v6 c1_i32_1668
  let v1762 : BitVec 32 := Scalar.addi c0_i32_1669 v1761
  v1762.toNat
def k0_dev48 (d0 : Dev nD) : Nat :=
  let c0_i32_1677 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v3 : BitVec 32 := Scalar.addi v2 c31_i32
  let c32_i32_0 : BitVec 32 := 32#32
  let v4 : BitVec 32 := Scalar.remsi v3 c32_i32_0
  let c1_i32_1676 : BitVec 32 := 1#32
  let v1770 : BitVec 32 := Scalar.muli v4 c1_i32_1676
  let v1771 : BitVec 32 := Scalar.addi c0_i32_1677 v1770
  v1771.toNat
def k0_dev49 (d0 : Dev nD) : Nat :=
  let c0_i32_1744 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1 : BitVec 32 := 1#32
  let v5 : BitVec 32 := Scalar.addi v2 c1_i32_1
  let c32_i32_2 : BitVec 32 := 32#32
  let v6 : BitVec 32 := Scalar.remsi v5 c32_i32_2
  let c1_i32_1743 : BitVec 32 := 1#32
  let v1840 : BitVec 32 := Scalar.muli v6 c1_i32_1743
  let v1841 : BitVec 32 := Scalar.addi c0_i32_1744 v1840
  v1841.toNat
def k0_dev50 (d0 : Dev nD) : Nat :=
  let c0_i32_1752 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v3 : BitVec 32 := Scalar.addi v2 c31_i32
  let c32_i32_0 : BitVec 32 := 32#32
  let v4 : BitVec 32 := Scalar.remsi v3 c32_i32_0
  let c1_i32_1751 : BitVec 32 := 1#32
  let v1849 : BitVec 32 := Scalar.muli v4 c1_i32_1751
  let v1850 : BitVec 32 := Scalar.addi c0_i32_1752 v1849
  v1850.toNat
def k0_dev51 (d0 : Dev nD) : Nat :=
  let c0_i32_1820 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1 : BitVec 32 := 1#32
  let v5 : BitVec 32 := Scalar.addi v2 c1_i32_1
  let c32_i32_2 : BitVec 32 := 32#32
  let v6 : BitVec 32 := Scalar.remsi v5 c32_i32_2
  let c1_i32_1819 : BitVec 32 := 1#32
  let v1919 : BitVec 32 := Scalar.muli v6 c1_i32_1819
  let v1920 : BitVec 32 := Scalar.addi c0_i32_1820 v1919
  v1920.toNat
def k0_dev52 (d0 : Dev nD) : Nat :=
  let c0_i32_1828 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v3 : BitVec 32 := Scalar.addi v2 c31_i32
  let c32_i32_0 : BitVec 32 := 32#32
  let v4 : BitVec 32 := Scalar.remsi v3 c32_i32_0
  let c1_i32_1827 : BitVec 32 := 1#32
  let v1928 : BitVec 32 := Scalar.muli v4 c1_i32_1827
  let v1929 : BitVec 32 := Scalar.addi c0_i32_1828 v1928
  v1929.toNat
def k0_dev53 (d0 : Dev nD) : Nat :=
  let c0_i32_1895 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1 : BitVec 32 := 1#32
  let v5 : BitVec 32 := Scalar.addi v2 c1_i32_1
  let c32_i32_2 : BitVec 32 := 32#32
  let v6 : BitVec 32 := Scalar.remsi v5 c32_i32_2
  let c1_i32_1894 : BitVec 32 := 1#32
  let v1998 : BitVec 32 := Scalar.muli v6 c1_i32_1894
  let v1999 : BitVec 32 := Scalar.addi c0_i32_1895 v1998
  v1999.toNat
def k0_dev54 (d0 : Dev nD) : Nat :=
  let c0_i32_1903 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v3 : BitVec 32 := Scalar.addi v2 c31_i32
  let c32_i32_0 : BitVec 32 := 32#32
  let v4 : BitVec 32 := Scalar.remsi v3 c32_i32_0
  let c1_i32_1902 : BitVec 32 := 1#32
  let v2007 : BitVec 32 := Scalar.muli v4 c1_i32_1902
  let v2008 : BitVec 32 := Scalar.addi c0_i32_1903 v2007
  v2008.toNat
def k0_dev55 (d0 : Dev nD) : Nat :=
  let c0_i32_1970 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1 : BitVec 32 := 1#32
  let v5 : BitVec 32 := Scalar.addi v2 c1_i32_1
  let c32_i32_2 : BitVec 32 := 32#32
  let v6 : BitVec 32 := Scalar.remsi v5 c32_i32_2
  let c1_i32_1969 : BitVec 32 := 1#32
  let v2077 : BitVec 32 := Scalar.muli v6 c1_i32_1969
  let v2078 : BitVec 32 := Scalar.addi c0_i32_1970 v2077
  v2078.toNat
def k0_dev56 (d0 : Dev nD) : Nat :=
  let c0_i32_1978 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v3 : BitVec 32 := Scalar.addi v2 c31_i32
  let c32_i32_0 : BitVec 32 := 32#32
  let v4 : BitVec 32 := Scalar.remsi v3 c32_i32_0
  let c1_i32_1977 : BitVec 32 := 1#32
  let v2086 : BitVec 32 := Scalar.muli v4 c1_i32_1977
  let v2087 : BitVec 32 := Scalar.addi c0_i32_1978 v2086
  v2087.toNat
def k0_dev57 (d0 : Dev nD) : Nat :=
  let c0_i32_2045 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1 : BitVec 32 := 1#32
  let v5 : BitVec 32 := Scalar.addi v2 c1_i32_1
  let c32_i32_2 : BitVec 32 := 32#32
  let v6 : BitVec 32 := Scalar.remsi v5 c32_i32_2
  let c1_i32_2044 : BitVec 32 := 1#32
  let v2156 : BitVec 32 := Scalar.muli v6 c1_i32_2044
  let v2157 : BitVec 32 := Scalar.addi c0_i32_2045 v2156
  v2157.toNat
def k0_dev58 (d0 : Dev nD) : Nat :=
  let c0_i32_2053 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v3 : BitVec 32 := Scalar.addi v2 c31_i32
  let c32_i32_0 : BitVec 32 := 32#32
  let v4 : BitVec 32 := Scalar.remsi v3 c32_i32_0
  let c1_i32_2052 : BitVec 32 := 1#32
  let v2165 : BitVec 32 := Scalar.muli v4 c1_i32_2052
  let v2166 : BitVec 32 := Scalar.addi c0_i32_2053 v2165
  v2166.toNat
def k0_dev59 (d0 : Dev nD) : Nat :=
  let c0_i32_2120 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1 : BitVec 32 := 1#32
  let v5 : BitVec 32 := Scalar.addi v2 c1_i32_1
  let c32_i32_2 : BitVec 32 := 32#32
  let v6 : BitVec 32 := Scalar.remsi v5 c32_i32_2
  let c1_i32_2119 : BitVec 32 := 1#32
  let v2235 : BitVec 32 := Scalar.muli v6 c1_i32_2119
  let v2236 : BitVec 32 := Scalar.addi c0_i32_2120 v2235
  v2236.toNat
def k0_dev60 (d0 : Dev nD) : Nat :=
  let c0_i32_2128 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v3 : BitVec 32 := Scalar.addi v2 c31_i32
  let c32_i32_0 : BitVec 32 := 32#32
  let v4 : BitVec 32 := Scalar.remsi v3 c32_i32_0
  let c1_i32_2127 : BitVec 32 := 1#32
  let v2244 : BitVec 32 := Scalar.muli v4 c1_i32_2127
  let v2245 : BitVec 32 := Scalar.addi c0_i32_2128 v2244
  v2245.toNat
def k0_dev61 (d0 : Dev nD) : Nat :=
  let c0_i32_2195 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1 : BitVec 32 := 1#32
  let v5 : BitVec 32 := Scalar.addi v2 c1_i32_1
  let c32_i32_2 : BitVec 32 := 32#32
  let v6 : BitVec 32 := Scalar.remsi v5 c32_i32_2
  let c1_i32_2194 : BitVec 32 := 1#32
  let v2314 : BitVec 32 := Scalar.muli v6 c1_i32_2194
  let v2315 : BitVec 32 := Scalar.addi c0_i32_2195 v2314
  v2315.toNat
def k0_dev62 (d0 : Dev nD) : Nat :=
  let c0_i32_2203 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v3 : BitVec 32 := Scalar.addi v2 c31_i32
  let c32_i32_0 : BitVec 32 := 32#32
  let v4 : BitVec 32 := Scalar.remsi v3 c32_i32_0
  let c1_i32_2202 : BitVec 32 := 1#32
  let v2323 : BitVec 32 := Scalar.muli v4 c1_i32_2202
  let v2324 : BitVec 32 := Scalar.addi c0_i32_2203 v2323
  v2324.toNat
def k0_dev63 (d0 : Dev nD) : Nat :=
  let c0_i32_2270 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1 : BitVec 32 := 1#32
  let v5 : BitVec 32 := Scalar.addi v2 c1_i32_1
  let c32_i32_2 : BitVec 32 := 32#32
  let v6 : BitVec 32 := Scalar.remsi v5 c32_i32_2
  let c1_i32_2269 : BitVec 32 := 1#32
  let v2393 : BitVec 32 := Scalar.muli v6 c1_i32_2269
  let v2394 : BitVec 32 := Scalar.addi c0_i32_2270 v2393
  v2394.toNat
def k0_dev64 (d0 : Dev nD) : Nat :=
  let c0_i32_2278 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v3 : BitVec 32 := Scalar.addi v2 c31_i32
  let c32_i32_0 : BitVec 32 := 32#32
  let v4 : BitVec 32 := Scalar.remsi v3 c32_i32_0
  let c1_i32_2277 : BitVec 32 := 1#32
  let v2402 : BitVec 32 := Scalar.muli v4 c1_i32_2277
  let v2403 : BitVec 32 := Scalar.addi c0_i32_2278 v2402
  v2403.toNat
def k0_off5 (d0 : Dev nD) (c0_i32_2328 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_2327 : BitVec 32 := 1#32
  let v2457 : BitVec 32 := Scalar.addi v2 c1_i32_2327
  let v2458 : BitVec 32 := Scalar.subi v2457 c0_i32_2328
  let c32_i32_2329 : BitVec 32 := 32#32
  let v2459 : BitVec 32 := Scalar.addi v2458 c32_i32_2329
  let c32_i32_2330 : BitVec 32 := 32#32
  let v2460 : BitVec 32 := Scalar.remsi v2459 c32_i32_2330
  let c48_i32_2336 : BitVec 32 := 48#32
  let v2466 : BitVec 32 := Scalar.muli v2460 c48_i32_2336
  let c0_i32_2345 : BitVec 32 := 0#32
  ![v2466.toNat, 0]
def k0_dev65 (d0 : Dev nD) : Nat :=
  let c0_i32_2344 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1 : BitVec 32 := 1#32
  let v5 : BitVec 32 := Scalar.addi v2 c1_i32_1
  let c32_i32_2 : BitVec 32 := 32#32
  let v6 : BitVec 32 := Scalar.remsi v5 c32_i32_2
  let c1_i32_2343 : BitVec 32 := 1#32
  let v2471 : BitVec 32 := Scalar.muli v6 c1_i32_2343
  let v2472 : BitVec 32 := Scalar.addi c0_i32_2344 v2471
  v2472.toNat
def k0_off6 (d0 : Dev nD) (c0_i32_2332 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_2331 : BitVec 32 := 1#32
  let v2461 : BitVec 32 := Scalar.subi v2 c1_i32_2331
  let v2462 : BitVec 32 := Scalar.addi v2461 c0_i32_2332
  let c32_i32_2333 : BitVec 32 := 32#32
  let v2463 : BitVec 32 := Scalar.addi v2462 c32_i32_2333
  let c32_i32_2334 : BitVec 32 := 32#32
  let v2464 : BitVec 32 := Scalar.remsi v2463 c32_i32_2334
  let c48_i32_2339 : BitVec 32 := 48#32
  let v2469 : BitVec 32 := Scalar.muli v2464 c48_i32_2339
  let c24_i32_2340 : BitVec 32 := 24#32
  let v2470 : BitVec 32 := Scalar.addi v2469 c24_i32_2340
  let c0_i32_2351 : BitVec 32 := 0#32
  ![v2470.toNat, 0]
def k0_dev66 (d0 : Dev nD) : Nat :=
  let c0_i32_2350 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v3 : BitVec 32 := Scalar.addi v2 c31_i32
  let c32_i32_0 : BitVec 32 := 32#32
  let v4 : BitVec 32 := Scalar.remsi v3 c32_i32_0
  let c1_i32_2349 : BitVec 32 := 1#32
  let v2479 : BitVec 32 := Scalar.muli v4 c1_i32_2349
  let v2480 : BitVec 32 := Scalar.addi c0_i32_2350 v2479
  v2480.toNat
def k0_dev67 (d0 : Dev nD) : Nat :=
  let c0_i32_2396 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1 : BitVec 32 := 1#32
  let v5 : BitVec 32 := Scalar.addi v2 c1_i32_1
  let c32_i32_2 : BitVec 32 := 32#32
  let v6 : BitVec 32 := Scalar.remsi v5 c32_i32_2
  let c1_i32_2395 : BitVec 32 := 1#32
  let v2523 : BitVec 32 := Scalar.muli v6 c1_i32_2395
  let v2524 : BitVec 32 := Scalar.addi c0_i32_2396 v2523
  v2524.toNat
def k0_dev68 (d0 : Dev nD) : Nat :=
  let c0_i32_2402 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v3 : BitVec 32 := Scalar.addi v2 c31_i32
  let c32_i32_0 : BitVec 32 := 32#32
  let v4 : BitVec 32 := Scalar.remsi v3 c32_i32_0
  let c1_i32_2401 : BitVec 32 := 1#32
  let v2531 : BitVec 32 := Scalar.muli v4 c1_i32_2401
  let v2532 : BitVec 32 := Scalar.addi c0_i32_2402 v2531
  v2532.toNat
def k0_dev69 (d0 : Dev nD) : Nat :=
  let c0_i32_2444 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1 : BitVec 32 := 1#32
  let v5 : BitVec 32 := Scalar.addi v2 c1_i32_1
  let c32_i32_2 : BitVec 32 := 32#32
  let v6 : BitVec 32 := Scalar.remsi v5 c32_i32_2
  let c1_i32_2443 : BitVec 32 := 1#32
  let v2573 : BitVec 32 := Scalar.muli v6 c1_i32_2443
  let v2574 : BitVec 32 := Scalar.addi c0_i32_2444 v2573
  v2574.toNat
def k0_dev70 (d0 : Dev nD) : Nat :=
  let c0_i32_2450 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v3 : BitVec 32 := Scalar.addi v2 c31_i32
  let c32_i32_0 : BitVec 32 := 32#32
  let v4 : BitVec 32 := Scalar.remsi v3 c32_i32_0
  let c1_i32_2449 : BitVec 32 := 1#32
  let v2581 : BitVec 32 := Scalar.muli v4 c1_i32_2449
  let v2582 : BitVec 32 := Scalar.addi c0_i32_2450 v2581
  v2582.toNat
def k0_dev71 (d0 : Dev nD) : Nat :=
  let c0_i32_2492 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1 : BitVec 32 := 1#32
  let v5 : BitVec 32 := Scalar.addi v2 c1_i32_1
  let c32_i32_2 : BitVec 32 := 32#32
  let v6 : BitVec 32 := Scalar.remsi v5 c32_i32_2
  let c1_i32_2491 : BitVec 32 := 1#32
  let v2623 : BitVec 32 := Scalar.muli v6 c1_i32_2491
  let v2624 : BitVec 32 := Scalar.addi c0_i32_2492 v2623
  v2624.toNat
def k0_dev72 (d0 : Dev nD) : Nat :=
  let c0_i32_2498 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v3 : BitVec 32 := Scalar.addi v2 c31_i32
  let c32_i32_0 : BitVec 32 := 32#32
  let v4 : BitVec 32 := Scalar.remsi v3 c32_i32_0
  let c1_i32_2497 : BitVec 32 := 1#32
  let v2631 : BitVec 32 := Scalar.muli v4 c1_i32_2497
  let v2632 : BitVec 32 := Scalar.addi c0_i32_2498 v2631
  v2632.toNat
def k0_dev73 (d0 : Dev nD) : Nat :=
  let c0_i32_2540 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1 : BitVec 32 := 1#32
  let v5 : BitVec 32 := Scalar.addi v2 c1_i32_1
  let c32_i32_2 : BitVec 32 := 32#32
  let v6 : BitVec 32 := Scalar.remsi v5 c32_i32_2
  let c1_i32_2539 : BitVec 32 := 1#32
  let v2673 : BitVec 32 := Scalar.muli v6 c1_i32_2539
  let v2674 : BitVec 32 := Scalar.addi c0_i32_2540 v2673
  v2674.toNat
def k0_dev74 (d0 : Dev nD) : Nat :=
  let c0_i32_2546 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v3 : BitVec 32 := Scalar.addi v2 c31_i32
  let c32_i32_0 : BitVec 32 := 32#32
  let v4 : BitVec 32 := Scalar.remsi v3 c32_i32_0
  let c1_i32_2545 : BitVec 32 := 1#32
  let v2681 : BitVec 32 := Scalar.muli v4 c1_i32_2545
  let v2682 : BitVec 32 := Scalar.addi c0_i32_2546 v2681
  v2682.toNat
def k0_dev75 (d0 : Dev nD) : Nat :=
  let c0_i32_2588 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1 : BitVec 32 := 1#32
  let v5 : BitVec 32 := Scalar.addi v2 c1_i32_1
  let c32_i32_2 : BitVec 32 := 32#32
  let v6 : BitVec 32 := Scalar.remsi v5 c32_i32_2
  let c1_i32_2587 : BitVec 32 := 1#32
  let v2723 : BitVec 32 := Scalar.muli v6 c1_i32_2587
  let v2724 : BitVec 32 := Scalar.addi c0_i32_2588 v2723
  v2724.toNat
def k0_dev76 (d0 : Dev nD) : Nat :=
  let c0_i32_2594 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v3 : BitVec 32 := Scalar.addi v2 c31_i32
  let c32_i32_0 : BitVec 32 := 32#32
  let v4 : BitVec 32 := Scalar.remsi v3 c32_i32_0
  let c1_i32_2593 : BitVec 32 := 1#32
  let v2731 : BitVec 32 := Scalar.muli v4 c1_i32_2593
  let v2732 : BitVec 32 := Scalar.addi c0_i32_2594 v2731
  v2732.toNat
def k0_dev77 (d0 : Dev nD) : Nat :=
  let c0_i32_2636 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1 : BitVec 32 := 1#32
  let v5 : BitVec 32 := Scalar.addi v2 c1_i32_1
  let c32_i32_2 : BitVec 32 := 32#32
  let v6 : BitVec 32 := Scalar.remsi v5 c32_i32_2
  let c1_i32_2635 : BitVec 32 := 1#32
  let v2773 : BitVec 32 := Scalar.muli v6 c1_i32_2635
  let v2774 : BitVec 32 := Scalar.addi c0_i32_2636 v2773
  v2774.toNat
def k0_dev78 (d0 : Dev nD) : Nat :=
  let c0_i32_2642 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v3 : BitVec 32 := Scalar.addi v2 c31_i32
  let c32_i32_0 : BitVec 32 := 32#32
  let v4 : BitVec 32 := Scalar.remsi v3 c32_i32_0
  let c1_i32_2641 : BitVec 32 := 1#32
  let v2781 : BitVec 32 := Scalar.muli v4 c1_i32_2641
  let v2782 : BitVec 32 := Scalar.addi c0_i32_2642 v2781
  v2782.toNat
def k0_dev79 (d0 : Dev nD) : Nat :=
  let c0_i32_2684 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1 : BitVec 32 := 1#32
  let v5 : BitVec 32 := Scalar.addi v2 c1_i32_1
  let c32_i32_2 : BitVec 32 := 32#32
  let v6 : BitVec 32 := Scalar.remsi v5 c32_i32_2
  let c1_i32_2683 : BitVec 32 := 1#32
  let v2823 : BitVec 32 := Scalar.muli v6 c1_i32_2683
  let v2824 : BitVec 32 := Scalar.addi c0_i32_2684 v2823
  v2824.toNat
def k0_dev80 (d0 : Dev nD) : Nat :=
  let c0_i32_2690 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v3 : BitVec 32 := Scalar.addi v2 c31_i32
  let c32_i32_0 : BitVec 32 := 32#32
  let v4 : BitVec 32 := Scalar.remsi v3 c32_i32_0
  let c1_i32_2689 : BitVec 32 := 1#32
  let v2831 : BitVec 32 := Scalar.muli v4 c1_i32_2689
  let v2832 : BitVec 32 := Scalar.addi c0_i32_2690 v2831
  v2832.toNat
def k0_dev81 (d0 : Dev nD) : Nat :=
  let c0_i32_2732 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1 : BitVec 32 := 1#32
  let v5 : BitVec 32 := Scalar.addi v2 c1_i32_1
  let c32_i32_2 : BitVec 32 := 32#32
  let v6 : BitVec 32 := Scalar.remsi v5 c32_i32_2
  let c1_i32_2731 : BitVec 32 := 1#32
  let v2873 : BitVec 32 := Scalar.muli v6 c1_i32_2731
  let v2874 : BitVec 32 := Scalar.addi c0_i32_2732 v2873
  v2874.toNat
def k0_dev82 (d0 : Dev nD) : Nat :=
  let c0_i32_2738 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v3 : BitVec 32 := Scalar.addi v2 c31_i32
  let c32_i32_0 : BitVec 32 := 32#32
  let v4 : BitVec 32 := Scalar.remsi v3 c32_i32_0
  let c1_i32_2737 : BitVec 32 := 1#32
  let v2881 : BitVec 32 := Scalar.muli v4 c1_i32_2737
  let v2882 : BitVec 32 := Scalar.addi c0_i32_2738 v2881
  v2882.toNat
def k0_dev83 (d0 : Dev nD) : Nat :=
  let c0_i32_2780 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1 : BitVec 32 := 1#32
  let v5 : BitVec 32 := Scalar.addi v2 c1_i32_1
  let c32_i32_2 : BitVec 32 := 32#32
  let v6 : BitVec 32 := Scalar.remsi v5 c32_i32_2
  let c1_i32_2779 : BitVec 32 := 1#32
  let v2923 : BitVec 32 := Scalar.muli v6 c1_i32_2779
  let v2924 : BitVec 32 := Scalar.addi c0_i32_2780 v2923
  v2924.toNat
def k0_dev84 (d0 : Dev nD) : Nat :=
  let c0_i32_2786 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v3 : BitVec 32 := Scalar.addi v2 c31_i32
  let c32_i32_0 : BitVec 32 := 32#32
  let v4 : BitVec 32 := Scalar.remsi v3 c32_i32_0
  let c1_i32_2785 : BitVec 32 := 1#32
  let v2931 : BitVec 32 := Scalar.muli v4 c1_i32_2785
  let v2932 : BitVec 32 := Scalar.addi c0_i32_2786 v2931
  v2932.toNat
def k0_dev85 (d0 : Dev nD) : Nat :=
  let c0_i32_2828 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1 : BitVec 32 := 1#32
  let v5 : BitVec 32 := Scalar.addi v2 c1_i32_1
  let c32_i32_2 : BitVec 32 := 32#32
  let v6 : BitVec 32 := Scalar.remsi v5 c32_i32_2
  let c1_i32_2827 : BitVec 32 := 1#32
  let v2973 : BitVec 32 := Scalar.muli v6 c1_i32_2827
  let v2974 : BitVec 32 := Scalar.addi c0_i32_2828 v2973
  v2974.toNat
def k0_dev86 (d0 : Dev nD) : Nat :=
  let c0_i32_2834 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v3 : BitVec 32 := Scalar.addi v2 c31_i32
  let c32_i32_0 : BitVec 32 := 32#32
  let v4 : BitVec 32 := Scalar.remsi v3 c32_i32_0
  let c1_i32_2833 : BitVec 32 := 1#32
  let v2981 : BitVec 32 := Scalar.muli v4 c1_i32_2833
  let v2982 : BitVec 32 := Scalar.addi c0_i32_2834 v2981
  v2982.toNat
def k0_dev87 (d0 : Dev nD) : Nat :=
  let c0_i32_2876 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1 : BitVec 32 := 1#32
  let v5 : BitVec 32 := Scalar.addi v2 c1_i32_1
  let c32_i32_2 : BitVec 32 := 32#32
  let v6 : BitVec 32 := Scalar.remsi v5 c32_i32_2
  let c1_i32_2875 : BitVec 32 := 1#32
  let v3023 : BitVec 32 := Scalar.muli v6 c1_i32_2875
  let v3024 : BitVec 32 := Scalar.addi c0_i32_2876 v3023
  v3024.toNat
def k0_dev88 (d0 : Dev nD) : Nat :=
  let c0_i32_2882 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v3 : BitVec 32 := Scalar.addi v2 c31_i32
  let c32_i32_0 : BitVec 32 := 32#32
  let v4 : BitVec 32 := Scalar.remsi v3 c32_i32_0
  let c1_i32_2881 : BitVec 32 := 1#32
  let v3031 : BitVec 32 := Scalar.muli v4 c1_i32_2881
  let v3032 : BitVec 32 := Scalar.addi c0_i32_2882 v3031
  v3032.toNat
def k0_dev89 (d0 : Dev nD) : Nat :=
  let c0_i32_2924 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1 : BitVec 32 := 1#32
  let v5 : BitVec 32 := Scalar.addi v2 c1_i32_1
  let c32_i32_2 : BitVec 32 := 32#32
  let v6 : BitVec 32 := Scalar.remsi v5 c32_i32_2
  let c1_i32_2923 : BitVec 32 := 1#32
  let v3073 : BitVec 32 := Scalar.muli v6 c1_i32_2923
  let v3074 : BitVec 32 := Scalar.addi c0_i32_2924 v3073
  v3074.toNat
def k0_dev90 (d0 : Dev nD) : Nat :=
  let c0_i32_2930 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v3 : BitVec 32 := Scalar.addi v2 c31_i32
  let c32_i32_0 : BitVec 32 := 32#32
  let v4 : BitVec 32 := Scalar.remsi v3 c32_i32_0
  let c1_i32_2929 : BitVec 32 := 1#32
  let v3081 : BitVec 32 := Scalar.muli v4 c1_i32_2929
  let v3082 : BitVec 32 := Scalar.addi c0_i32_2930 v3081
  v3082.toNat
def k0_dev91 (d0 : Dev nD) : Nat :=
  let c0_i32_2972 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1 : BitVec 32 := 1#32
  let v5 : BitVec 32 := Scalar.addi v2 c1_i32_1
  let c32_i32_2 : BitVec 32 := 32#32
  let v6 : BitVec 32 := Scalar.remsi v5 c32_i32_2
  let c1_i32_2971 : BitVec 32 := 1#32
  let v3123 : BitVec 32 := Scalar.muli v6 c1_i32_2971
  let v3124 : BitVec 32 := Scalar.addi c0_i32_2972 v3123
  v3124.toNat
def k0_dev92 (d0 : Dev nD) : Nat :=
  let c0_i32_2978 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v3 : BitVec 32 := Scalar.addi v2 c31_i32
  let c32_i32_0 : BitVec 32 := 32#32
  let v4 : BitVec 32 := Scalar.remsi v3 c32_i32_0
  let c1_i32_2977 : BitVec 32 := 1#32
  let v3131 : BitVec 32 := Scalar.muli v4 c1_i32_2977
  let v3132 : BitVec 32 := Scalar.addi c0_i32_2978 v3131
  v3132.toNat
def k0_dev93 (d0 : Dev nD) : Nat :=
  let c0_i32_3020 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1 : BitVec 32 := 1#32
  let v5 : BitVec 32 := Scalar.addi v2 c1_i32_1
  let c32_i32_2 : BitVec 32 := 32#32
  let v6 : BitVec 32 := Scalar.remsi v5 c32_i32_2
  let c1_i32_3019 : BitVec 32 := 1#32
  let v3173 : BitVec 32 := Scalar.muli v6 c1_i32_3019
  let v3174 : BitVec 32 := Scalar.addi c0_i32_3020 v3173
  v3174.toNat
def k0_dev94 (d0 : Dev nD) : Nat :=
  let c0_i32_3026 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v3 : BitVec 32 := Scalar.addi v2 c31_i32
  let c32_i32_0 : BitVec 32 := 32#32
  let v4 : BitVec 32 := Scalar.remsi v3 c32_i32_0
  let c1_i32_3025 : BitVec 32 := 1#32
  let v3181 : BitVec 32 := Scalar.muli v4 c1_i32_3025
  let v3182 : BitVec 32 := Scalar.addi c0_i32_3026 v3181
  v3182.toNat
def k0_dev95 (d0 : Dev nD) : Nat :=
  let c0_i32_3068 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1 : BitVec 32 := 1#32
  let v5 : BitVec 32 := Scalar.addi v2 c1_i32_1
  let c32_i32_2 : BitVec 32 := 32#32
  let v6 : BitVec 32 := Scalar.remsi v5 c32_i32_2
  let c1_i32_3067 : BitVec 32 := 1#32
  let v3223 : BitVec 32 := Scalar.muli v6 c1_i32_3067
  let v3224 : BitVec 32 := Scalar.addi c0_i32_3068 v3223
  v3224.toNat
def k0_dev96 (d0 : Dev nD) : Nat :=
  let c0_i32_3074 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v3 : BitVec 32 := Scalar.addi v2 c31_i32
  let c32_i32_0 : BitVec 32 := 32#32
  let v4 : BitVec 32 := Scalar.remsi v3 c32_i32_0
  let c1_i32_3073 : BitVec 32 := 1#32
  let v3231 : BitVec 32 := Scalar.muli v4 c1_i32_3073
  let v3232 : BitVec 32 := Scalar.addi c0_i32_3074 v3231
  v3232.toNat
def k0_dev97 (d0 : Dev nD) : Nat :=
  let c0_i32_3116 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1 : BitVec 32 := 1#32
  let v5 : BitVec 32 := Scalar.addi v2 c1_i32_1
  let c32_i32_2 : BitVec 32 := 32#32
  let v6 : BitVec 32 := Scalar.remsi v5 c32_i32_2
  let c1_i32_3115 : BitVec 32 := 1#32
  let v3273 : BitVec 32 := Scalar.muli v6 c1_i32_3115
  let v3274 : BitVec 32 := Scalar.addi c0_i32_3116 v3273
  v3274.toNat
def k0_dev98 (d0 : Dev nD) : Nat :=
  let c0_i32_3122 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v3 : BitVec 32 := Scalar.addi v2 c31_i32
  let c32_i32_0 : BitVec 32 := 32#32
  let v4 : BitVec 32 := Scalar.remsi v3 c32_i32_0
  let c1_i32_3121 : BitVec 32 := 1#32
  let v3281 : BitVec 32 := Scalar.muli v4 c1_i32_3121
  let v3282 : BitVec 32 := Scalar.addi c0_i32_3122 v3281
  v3282.toNat
def k0_dev99 (d0 : Dev nD) : Nat :=
  let c0_i32_3164 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1 : BitVec 32 := 1#32
  let v5 : BitVec 32 := Scalar.addi v2 c1_i32_1
  let c32_i32_2 : BitVec 32 := 32#32
  let v6 : BitVec 32 := Scalar.remsi v5 c32_i32_2
  let c1_i32_3163 : BitVec 32 := 1#32
  let v3323 : BitVec 32 := Scalar.muli v6 c1_i32_3163
  let v3324 : BitVec 32 := Scalar.addi c0_i32_3164 v3323
  v3324.toNat
def k0_dev100 (d0 : Dev nD) : Nat :=
  let c0_i32_3170 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v3 : BitVec 32 := Scalar.addi v2 c31_i32
  let c32_i32_0 : BitVec 32 := 32#32
  let v4 : BitVec 32 := Scalar.remsi v3 c32_i32_0
  let c1_i32_3169 : BitVec 32 := 1#32
  let v3331 : BitVec 32 := Scalar.muli v4 c1_i32_3169
  let v3332 : BitVec 32 := Scalar.addi c0_i32_3170 v3331
  v3332.toNat
def k0_dev101 (d0 : Dev nD) : Nat :=
  let c0_i32_3212 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1 : BitVec 32 := 1#32
  let v5 : BitVec 32 := Scalar.addi v2 c1_i32_1
  let c32_i32_2 : BitVec 32 := 32#32
  let v6 : BitVec 32 := Scalar.remsi v5 c32_i32_2
  let c1_i32_3211 : BitVec 32 := 1#32
  let v3373 : BitVec 32 := Scalar.muli v6 c1_i32_3211
  let v3374 : BitVec 32 := Scalar.addi c0_i32_3212 v3373
  v3374.toNat
def k0_dev102 (d0 : Dev nD) : Nat :=
  let c0_i32_3218 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v3 : BitVec 32 := Scalar.addi v2 c31_i32
  let c32_i32_0 : BitVec 32 := 32#32
  let v4 : BitVec 32 := Scalar.remsi v3 c32_i32_0
  let c1_i32_3217 : BitVec 32 := 1#32
  let v3381 : BitVec 32 := Scalar.muli v4 c1_i32_3217
  let v3382 : BitVec 32 := Scalar.addi c0_i32_3218 v3381
  v3382.toNat
def k0_dev103 (d0 : Dev nD) : Nat :=
  let c0_i32_3260 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1 : BitVec 32 := 1#32
  let v5 : BitVec 32 := Scalar.addi v2 c1_i32_1
  let c32_i32_2 : BitVec 32 := 32#32
  let v6 : BitVec 32 := Scalar.remsi v5 c32_i32_2
  let c1_i32_3259 : BitVec 32 := 1#32
  let v3423 : BitVec 32 := Scalar.muli v6 c1_i32_3259
  let v3424 : BitVec 32 := Scalar.addi c0_i32_3260 v3423
  v3424.toNat
def k0_dev104 (d0 : Dev nD) : Nat :=
  let c0_i32_3266 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v3 : BitVec 32 := Scalar.addi v2 c31_i32
  let c32_i32_0 : BitVec 32 := 32#32
  let v4 : BitVec 32 := Scalar.remsi v3 c32_i32_0
  let c1_i32_3265 : BitVec 32 := 1#32
  let v3431 : BitVec 32 := Scalar.muli v4 c1_i32_3265
  let v3432 : BitVec 32 := Scalar.addi c0_i32_3266 v3431
  v3432.toNat
def k0_dev105 (d0 : Dev nD) : Nat :=
  let c0_i32_3308 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1 : BitVec 32 := 1#32
  let v5 : BitVec 32 := Scalar.addi v2 c1_i32_1
  let c32_i32_2 : BitVec 32 := 32#32
  let v6 : BitVec 32 := Scalar.remsi v5 c32_i32_2
  let c1_i32_3307 : BitVec 32 := 1#32
  let v3473 : BitVec 32 := Scalar.muli v6 c1_i32_3307
  let v3474 : BitVec 32 := Scalar.addi c0_i32_3308 v3473
  v3474.toNat
def k0_dev106 (d0 : Dev nD) : Nat :=
  let c0_i32_3314 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v3 : BitVec 32 := Scalar.addi v2 c31_i32
  let c32_i32_0 : BitVec 32 := 32#32
  let v4 : BitVec 32 := Scalar.remsi v3 c32_i32_0
  let c1_i32_3313 : BitVec 32 := 1#32
  let v3481 : BitVec 32 := Scalar.muli v4 c1_i32_3313
  let v3482 : BitVec 32 := Scalar.addi c0_i32_3314 v3481
  v3482.toNat
def k0_dev107 (d0 : Dev nD) : Nat :=
  let c0_i32_3356 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1 : BitVec 32 := 1#32
  let v5 : BitVec 32 := Scalar.addi v2 c1_i32_1
  let c32_i32_2 : BitVec 32 := 32#32
  let v6 : BitVec 32 := Scalar.remsi v5 c32_i32_2
  let c1_i32_3355 : BitVec 32 := 1#32
  let v3523 : BitVec 32 := Scalar.muli v6 c1_i32_3355
  let v3524 : BitVec 32 := Scalar.addi c0_i32_3356 v3523
  v3524.toNat
def k0_dev108 (d0 : Dev nD) : Nat :=
  let c0_i32_3362 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v3 : BitVec 32 := Scalar.addi v2 c31_i32
  let c32_i32_0 : BitVec 32 := 32#32
  let v4 : BitVec 32 := Scalar.remsi v3 c32_i32_0
  let c1_i32_3361 : BitVec 32 := 1#32
  let v3531 : BitVec 32 := Scalar.muli v4 c1_i32_3361
  let v3532 : BitVec 32 := Scalar.addi c0_i32_3362 v3531
  v3532.toNat
def k0_dev109 (d0 : Dev nD) : Nat :=
  let c0_i32_3404 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1 : BitVec 32 := 1#32
  let v5 : BitVec 32 := Scalar.addi v2 c1_i32_1
  let c32_i32_2 : BitVec 32 := 32#32
  let v6 : BitVec 32 := Scalar.remsi v5 c32_i32_2
  let c1_i32_3403 : BitVec 32 := 1#32
  let v3573 : BitVec 32 := Scalar.muli v6 c1_i32_3403
  let v3574 : BitVec 32 := Scalar.addi c0_i32_3404 v3573
  v3574.toNat
def k0_dev110 (d0 : Dev nD) : Nat :=
  let c0_i32_3410 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v3 : BitVec 32 := Scalar.addi v2 c31_i32
  let c32_i32_0 : BitVec 32 := 32#32
  let v4 : BitVec 32 := Scalar.remsi v3 c32_i32_0
  let c1_i32_3409 : BitVec 32 := 1#32
  let v3581 : BitVec 32 := Scalar.muli v4 c1_i32_3409
  let v3582 : BitVec 32 := Scalar.addi c0_i32_3410 v3581
  v3582.toNat
def k0_dev111 (d0 : Dev nD) : Nat :=
  let c0_i32_3452 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1 : BitVec 32 := 1#32
  let v5 : BitVec 32 := Scalar.addi v2 c1_i32_1
  let c32_i32_2 : BitVec 32 := 32#32
  let v6 : BitVec 32 := Scalar.remsi v5 c32_i32_2
  let c1_i32_3451 : BitVec 32 := 1#32
  let v3623 : BitVec 32 := Scalar.muli v6 c1_i32_3451
  let v3624 : BitVec 32 := Scalar.addi c0_i32_3452 v3623
  v3624.toNat
def k0_dev112 (d0 : Dev nD) : Nat :=
  let c0_i32_3458 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v3 : BitVec 32 := Scalar.addi v2 c31_i32
  let c32_i32_0 : BitVec 32 := 32#32
  let v4 : BitVec 32 := Scalar.remsi v3 c32_i32_0
  let c1_i32_3457 : BitVec 32 := 1#32
  let v3631 : BitVec 32 := Scalar.muli v4 c1_i32_3457
  let v3632 : BitVec 32 := Scalar.addi c0_i32_3458 v3631
  v3632.toNat
def k0_dev113 (d0 : Dev nD) : Nat :=
  let c0_i32_3500 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1 : BitVec 32 := 1#32
  let v5 : BitVec 32 := Scalar.addi v2 c1_i32_1
  let c32_i32_2 : BitVec 32 := 32#32
  let v6 : BitVec 32 := Scalar.remsi v5 c32_i32_2
  let c1_i32_3499 : BitVec 32 := 1#32
  let v3673 : BitVec 32 := Scalar.muli v6 c1_i32_3499
  let v3674 : BitVec 32 := Scalar.addi c0_i32_3500 v3673
  v3674.toNat
def k0_dev114 (d0 : Dev nD) : Nat :=
  let c0_i32_3506 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v3 : BitVec 32 := Scalar.addi v2 c31_i32
  let c32_i32_0 : BitVec 32 := 32#32
  let v4 : BitVec 32 := Scalar.remsi v3 c32_i32_0
  let c1_i32_3505 : BitVec 32 := 1#32
  let v3681 : BitVec 32 := Scalar.muli v4 c1_i32_3505
  let v3682 : BitVec 32 := Scalar.addi c0_i32_3506 v3681
  v3682.toNat
def k0_dev115 (d0 : Dev nD) : Nat :=
  let c0_i32_3548 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1 : BitVec 32 := 1#32
  let v5 : BitVec 32 := Scalar.addi v2 c1_i32_1
  let c32_i32_2 : BitVec 32 := 32#32
  let v6 : BitVec 32 := Scalar.remsi v5 c32_i32_2
  let c1_i32_3547 : BitVec 32 := 1#32
  let v3723 : BitVec 32 := Scalar.muli v6 c1_i32_3547
  let v3724 : BitVec 32 := Scalar.addi c0_i32_3548 v3723
  v3724.toNat
def k0_dev116 (d0 : Dev nD) : Nat :=
  let c0_i32_3554 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v3 : BitVec 32 := Scalar.addi v2 c31_i32
  let c32_i32_0 : BitVec 32 := 32#32
  let v4 : BitVec 32 := Scalar.remsi v3 c32_i32_0
  let c1_i32_3553 : BitVec 32 := 1#32
  let v3731 : BitVec 32 := Scalar.muli v4 c1_i32_3553
  let v3732 : BitVec 32 := Scalar.addi c0_i32_3554 v3731
  v3732.toNat
def k0_dev117 (d0 : Dev nD) : Nat :=
  let c0_i32_3596 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1 : BitVec 32 := 1#32
  let v5 : BitVec 32 := Scalar.addi v2 c1_i32_1
  let c32_i32_2 : BitVec 32 := 32#32
  let v6 : BitVec 32 := Scalar.remsi v5 c32_i32_2
  let c1_i32_3595 : BitVec 32 := 1#32
  let v3773 : BitVec 32 := Scalar.muli v6 c1_i32_3595
  let v3774 : BitVec 32 := Scalar.addi c0_i32_3596 v3773
  v3774.toNat
def k0_dev118 (d0 : Dev nD) : Nat :=
  let c0_i32_3602 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v3 : BitVec 32 := Scalar.addi v2 c31_i32
  let c32_i32_0 : BitVec 32 := 32#32
  let v4 : BitVec 32 := Scalar.remsi v3 c32_i32_0
  let c1_i32_3601 : BitVec 32 := 1#32
  let v3781 : BitVec 32 := Scalar.muli v4 c1_i32_3601
  let v3782 : BitVec 32 := Scalar.addi c0_i32_3602 v3781
  v3782.toNat
def k0_dev119 (d0 : Dev nD) : Nat :=
  let c0_i32_3644 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1 : BitVec 32 := 1#32
  let v5 : BitVec 32 := Scalar.addi v2 c1_i32_1
  let c32_i32_2 : BitVec 32 := 32#32
  let v6 : BitVec 32 := Scalar.remsi v5 c32_i32_2
  let c1_i32_3643 : BitVec 32 := 1#32
  let v3823 : BitVec 32 := Scalar.muli v6 c1_i32_3643
  let v3824 : BitVec 32 := Scalar.addi c0_i32_3644 v3823
  v3824.toNat
def k0_dev120 (d0 : Dev nD) : Nat :=
  let c0_i32_3650 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v3 : BitVec 32 := Scalar.addi v2 c31_i32
  let c32_i32_0 : BitVec 32 := 32#32
  let v4 : BitVec 32 := Scalar.remsi v3 c32_i32_0
  let c1_i32_3649 : BitVec 32 := 1#32
  let v3831 : BitVec 32 := Scalar.muli v4 c1_i32_3649
  let v3832 : BitVec 32 := Scalar.addi c0_i32_3650 v3831
  v3832.toNat
def k0_dev121 (d0 : Dev nD) : Nat :=
  let c0_i32_3692 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1 : BitVec 32 := 1#32
  let v5 : BitVec 32 := Scalar.addi v2 c1_i32_1
  let c32_i32_2 : BitVec 32 := 32#32
  let v6 : BitVec 32 := Scalar.remsi v5 c32_i32_2
  let c1_i32_3691 : BitVec 32 := 1#32
  let v3873 : BitVec 32 := Scalar.muli v6 c1_i32_3691
  let v3874 : BitVec 32 := Scalar.addi c0_i32_3692 v3873
  v3874.toNat
def k0_dev122 (d0 : Dev nD) : Nat :=
  let c0_i32_3698 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v3 : BitVec 32 := Scalar.addi v2 c31_i32
  let c32_i32_0 : BitVec 32 := 32#32
  let v4 : BitVec 32 := Scalar.remsi v3 c32_i32_0
  let c1_i32_3697 : BitVec 32 := 1#32
  let v3881 : BitVec 32 := Scalar.muli v4 c1_i32_3697
  let v3882 : BitVec 32 := Scalar.addi c0_i32_3698 v3881
  v3882.toNat
def k0_dev123 (d0 : Dev nD) : Nat :=
  let c0_i32_3740 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1 : BitVec 32 := 1#32
  let v5 : BitVec 32 := Scalar.addi v2 c1_i32_1
  let c32_i32_2 : BitVec 32 := 32#32
  let v6 : BitVec 32 := Scalar.remsi v5 c32_i32_2
  let c1_i32_3739 : BitVec 32 := 1#32
  let v3923 : BitVec 32 := Scalar.muli v6 c1_i32_3739
  let v3924 : BitVec 32 := Scalar.addi c0_i32_3740 v3923
  v3924.toNat
def k0_dev124 (d0 : Dev nD) : Nat :=
  let c0_i32_3746 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v3 : BitVec 32 := Scalar.addi v2 c31_i32
  let c32_i32_0 : BitVec 32 := 32#32
  let v4 : BitVec 32 := Scalar.remsi v3 c32_i32_0
  let c1_i32_3745 : BitVec 32 := 1#32
  let v3931 : BitVec 32 := Scalar.muli v4 c1_i32_3745
  let v3932 : BitVec 32 := Scalar.addi c0_i32_3746 v3931
  v3932.toNat
def k0_dev125 (d0 : Dev nD) : Nat :=
  let c0_i32_3788 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1 : BitVec 32 := 1#32
  let v5 : BitVec 32 := Scalar.addi v2 c1_i32_1
  let c32_i32_2 : BitVec 32 := 32#32
  let v6 : BitVec 32 := Scalar.remsi v5 c32_i32_2
  let c1_i32_3787 : BitVec 32 := 1#32
  let v3973 : BitVec 32 := Scalar.muli v6 c1_i32_3787
  let v3974 : BitVec 32 := Scalar.addi c0_i32_3788 v3973
  v3974.toNat
def k0_dev126 (d0 : Dev nD) : Nat :=
  let c0_i32_3794 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v3 : BitVec 32 := Scalar.addi v2 c31_i32
  let c32_i32_0 : BitVec 32 := 32#32
  let v4 : BitVec 32 := Scalar.remsi v3 c32_i32_0
  let c1_i32_3793 : BitVec 32 := 1#32
  let v3981 : BitVec 32 := Scalar.muli v4 c1_i32_3793
  let v3982 : BitVec 32 := Scalar.addi c0_i32_3794 v3981
  v3982.toNat
abbrev stage0_0 : Fin 1 → Memref sig .tc .vmem S1536x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S768x1536 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1536x1536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S1536x24576 : Shape := ⟨2, ![1536, 24576]⟩
abbrev S24576x1536 : Shape := ⟨2, ![24576, 1536]⟩
abbrev S1536x1536 : Shape := ⟨2, ![1536, 1536]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S1536x24576, .f32⟩
  | .hbm, ⟨1, _⟩ => ⟨S24576x1536, .f32⟩
  | .hbm, ⟨2, _⟩ => ⟨S1536x1536, .f32⟩
  | .hbm, ⟨3, _⟩ => ⟨S_, .f32⟩
  | .hbm, ⟨4, _⟩ => ⟨S1536x1536, .f32⟩
  | .hbm, ⟨5, _⟩ => ⟨S1536x1536, .f32⟩
  | .hbm, ⟨6, _⟩ => ⟨S_, .f32⟩
  | .hbm, ⟨7, _⟩ => ⟨S1536x1536, .f32⟩
  | .hbm, ⟨8, _⟩ => ⟨S1536x1536, .f32⟩
  | .hbm, ⟨9, _⟩ => ⟨S1536x1536, .f32⟩
  | .hbm, ⟨10, _⟩ => ⟨S1536x1536, .f32⟩
  | .hbm, ⟨11, _⟩ => ⟨S1536x1536, .f32⟩
  | .hbm, ⟨12, _⟩ => ⟨S_, .f32⟩
  | .hbm, ⟨13, _⟩ => ⟨S1536x1536, .f32⟩
  | .hbm, ⟨14, _⟩ => ⟨S1536x1536, .f32⟩
  | .hbm, ⟨15, _⟩ => ⟨S1536x1536, .f32⟩
  | .hbm, ⟨16, _⟩ => ⟨S_, .f32⟩
  | .hbm, ⟨17, _⟩ => ⟨S1536x1536, .f32⟩
  | .hbm, ⟨18, _⟩ => ⟨S1536x1536, .f32⟩
  | .hbm, ⟨19, _⟩ => ⟨S1536x1536, .f32⟩
  | _, _ => ⟨S1536x24576, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Proof.SameText.lean ====
/-
The kernel and its idealization are one text: nothing was rewritten, so what holds of the idealized program at every
interpretation of the floats holds of the program as printed.
-/
module

public import proofs.«01_k».proof.Proof.Gen.Kernel
public import proofs.«01_k».proof.Proof.Gen.KernelIdeal

@[expose] public section

noncomputable section

namespace Cert.RingProof

open Idealize.ShloMosaic Idealize.SL.Sem

variable {F : FTy → Type} [FloatOps F]

set_option maxRecDepth 1000000 in
/-- The two bodies are the same operations. -/
theorem body_same : Cert.Kernel.cc0_body (F := F) = Cert.KernelIdeal.cc0_body (F := F) := rfl

set_option maxRecDepth 1000000 in
/-- The two tables of bodies agree. -/
theorem defs₀_same : Cert.Kernel.defs₀ (F := F) = Cert.KernelIdeal.defs₀ (F := F) := by
  unfold Cert.Kernel.defs₀ Cert.KernelIdeal.defs₀
  refine congrArg Defs.onTc ?_
  funext l x
  match l, x with
  | 0, (t, s) =>
    exact congrFun (congrFun (congrFun (congrFun (congrFun (congrFun (congrFun (congrFun (congrFun (congrFun (congrFun
      (congrFun (congrFun (congrFun (body_same (F := F)) (Cert.Kernel.win0_0.stage (s 0))) _)
      (Cert.Kernel.win0_1.stage (s 1))) _) (Cert.Kernel.win0_2.stage (s 2))) _) _) _) _) _) _) _) _) _

/-- The two programs run under the same definitions. -/
theorem defs_same : Cert.Kernel.defs (F := F) = Cert.KernelIdeal.defs (F := F) := by
  unfold Cert.Kernel.defs Cert.KernelIdeal.defs
  exact congrArg (Pipeline.defs Cert.Kernel.pcfgs) defs₀_same

end Cert.RingProof

end
-- ==== Proof.Prog.lean ====
/-
The kernel body regrouped: a reduce-scatter and an all-gather round a ring of 32 devices, in both directions at
once, written as two loops over the steps of the ring. The printed body is the same tree of operations unrolled
(`cc0_body_eq_prog`), so everything proved of the loops holds of it.

A direction is a `Bool`: `true` is the direction in which data moves to the next device, `false` the one in which it
moves to the previous device. Each operation is written once, for both directions, at explicit row offsets.
-/
module

public import proofs.«01_k».proof.Proof.Gen.KernelIdeal.Skeleton
public import Idealize.ShloMosaic.Lib.Tactic

@[expose] public section

noncomputable section

namespace Cert.RingProof

open Cert.KernelIdeal Cert.KernelIdeal.Gen
open Idealize.ShloMosaic Idealize.SL.Sem

variable {F : FTy → Type} [FloatOps F]

/-- Programs of the kernel's core. -/
abbrev Body (F : FTy → Type) [FloatOps F] : Type 1 := Prog (TpuEff nD τ sig (Elt F) Λ₀ .tc) PUnit

/-- The offsets of a row block lie in the output buffer. -/
abbrev OffIn (off : Fin 2 → ℕ) : Prop := ∀ a, off a + S24x1536.size a ≤ S1536x1536.size a

/-- A slot lies within its landing buffer. -/
theorem slot_inb (s : Fin 31) : ∀ a, (![s.val, 0, 0] : Fin 3 → ℕ) a + S1x24x1536.size a ≤ S31x24x1536.size a := by
  revert s; decide

/-- A semaphore lies within its array. -/
theorem sem_inb (s : Fin 31) : ∀ a, (![s.val] : Fin 1 → ℕ) a + S1.size a ≤ S31.size a := by
  revert s; decide

/-- The rectangle of 24 rows of the output buffer at given offsets. -/
abbrev rowRect (off : Fin 2 → ℕ) (h : OffIn off) : Rect S1536x1536 :=
  Rect.unit (s := S1536x1536) off S24x1536.size h

/-- The rectangle of slot `s` of a landing buffer. -/
abbrev slotRect (s : Fin 31) : Rect S31x24x1536 :=
  Rect.unit (s := S31x24x1536) ![s.val, 0, 0] S1x24x1536.size (slot_inb s)

/-- 24 rows of the output buffer. -/
abbrev rowM (o : Memref sig .tc .vmem S1536x1536 .f32) (off : Fin 2 → ℕ) (h : OffIn off) :
    Memref sig .tc .vmem S24x1536 .f32 :=
  o.slice (rowRect off h) (fun _ => rfl)

/-- Slot `s` of a landing buffer. -/
abbrev slotM (cm : Memref sig .tc .vmem S31x24x1536 .f32) (s : Fin 31) : Memref sig .tc .vmem S24x1536 .f32 :=
  (cm.slice (slotRect s) (fun _ => rfl)).squeeze S24x1536 squeezes_S1x24x1536_S24x1536

/-- Semaphore `s` of an array of 31. -/
abbrev semAt (a : DmaSems sig S31) (s : Fin 31) : DmaSem sig :=
  ((a.slice (Rect.unit (s := S31) ![s.val] S1.size (sem_inb s))).squeeze S_ squeezes_S1_S_).sem

/-- The body's operands: the three staging buffers, and per direction the landing buffer and the semaphores of
    departures and of arrivals. -/
structure Ops where
  a : Memref sig .tc .vmem S1536x768 .f32
  b : Memref sig .tc .vmem S768x1536 .f32
  o : Memref sig .tc .vmem S1536x1536 .f32
  cm : Bool → Memref sig .tc .vmem S31x24x1536 .f32
  ss : Bool → DmaSems sig S31
  rs : Bool → DmaSems sig S31

/-- The device that direction `d` sends to. -/
def dest (d : Bool) (d0 : Dev nD) : Dev nD :=
  match d with
  | true => ⟨k0_dev3 d0, k0_dev3_lt d0⟩
  | false => ⟨k0_dev4 d0, k0_dev4_lt d0⟩

/-- The offsets of the block sent at step `s` of the reduce-scatter. -/
def offSend (d : Bool) (d0 : Dev nD) (s : Fin 31) : Fin 2 → ℕ :=
  match d with
  | true => k0_off1 d0 (BitVec.ofNat 32 s.val)
  | false => k0_off2 d0 (BitVec.ofNat 32 s.val)

/-- The block that is sent lies within the result, -/
theorem offSend_in (d : Bool) (d0 : Dev nD) (s : Fin 31) : OffIn (offSend d d0 s) :=
  match d with
  | true => k0_off1_inb d0 s
  | false => k0_off2_inb d0 s

/-- The offsets of the block accumulated into at step `s` of the reduce-scatter. -/
def offAcc (d : Bool) (d0 : Dev nD) (s : Fin 31) : Fin 2 → ℕ :=
  match d with
  | true => k0_off3 d0 (BitVec.ofNat 32 s.val)
  | false => k0_off4 d0 (BitVec.ofNat 32 s.val)

/-- so does the block that is added to, -/
theorem offAcc_in (d : Bool) (d0 : Dev nD) (s : Fin 31) : OffIn (offAcc d d0 s) :=
  match d with
  | true => k0_off3_inb d0 s
  | false => k0_off4_inb d0 s

/-- The offsets of the block sent at step `s` of the all-gather. -/
def offGat (d : Bool) (d0 : Dev nD) (s : Fin 31) : Fin 2 → ℕ :=
  match d with
  | true => k0_off5 d0 (BitVec.ofNat 32 s.val)
  | false => k0_off6 d0 (BitVec.ofNat 32 s.val)

/-- and the block that is passed on. -/
theorem offGat_in (d : Bool) (d0 : Dev nD) (s : Fin 31) : OffIn (offGat d d0 s) :=
  match d with
  | true => k0_off5_inb d0 s
  | false => k0_off6_inb d0 s

/-! ## The operations, each followed by the program `k` -/

section Steps

variable (x : Ops) (d : Bool) (g : Dev nD) (s : Fin 31) (off : Fin 2 → ℕ) (h : OffIn off) (k : Body F)

/-- Send 24 rows to device `g`'s landing slot. -/
def rsStart : Body F :=
  .op (.enqueueDma (rowM x.o off h) (.remote (Dev.tc g) (slotM (x.cm d) s) (.dma (semAt (x.ss d) s)))
    (.dma (semAt (x.rs d) s)) (View.wordExact_bits rfl) ((View.wordExact_bits rfl).reshape _ _)
    ⟨⟨rfl, Or.inl rfl⟩, trivial⟩) fun _ => k

/-- Wait for the arrival in landing slot `s`. -/
def rsRecv : Body F :=
  .op (.waitDma2 (semAt (x.rs d) s) (rowM x.o off h) (slotM (x.cm d) s) (View.wordExact_bits rfl)
    ((View.wordExact_bits rfl).reshape _ _)) fun _ => k

/-- Add landing slot `s` to 24 rows. -/
def rsAdd : Body F :=
  .op (.load x.o (rowRect off h).toLoadRect (View.loadsAt_vmem h_S24x1536)) fun v =>
  .op (.load (x.cm d) (slotRect s).toLoadRect (View.loadsAt_vmem h_S1x24x1536)) fun w =>
  .op (.load x.o (rowRect off h).toLoadRect (View.loadsAt_vmem h_S24x1536)) fun _ =>
  .op (.store x.o (rowRect off h) (k0_pay3 (F := F) v w) Finset.univ (View.stores_vmem_bits_univ h_S24x1536 rfl)
    (.inl rfl)) fun _ => k

/-- Wait until the rows sent to a landing slot have left. -/
def rsWait : Body F :=
  .op (.waitDma2 (semAt (x.ss d) s) (slotM (x.cm d) s) (rowM x.o off h)
    ((View.wordExact_bits rfl).reshape _ _) (View.wordExact_bits rfl)) fun _ => k

/-- Send 24 rows to the same rows of device `g`'s output buffer. -/
def gStart : Body F :=
  .op (.enqueueDma (rowM x.o off h) (.remote (Dev.tc g) (rowM x.o off h) (.dma (semAt (x.ss d) s)))
    (.dma (semAt (x.rs d) s)) (View.wordExact_bits rfl) (View.wordExact_bits rfl)
    ⟨⟨rfl, Or.inl rfl⟩, trivial⟩) fun _ => k

/-- Wait on a semaphore of array `a` for one block of 24 rows. -/
def gWait (a : DmaSems sig S31) : Body F :=
  .op (.waitDma2 (semAt a s) (rowM x.o off h) (rowM x.o off h) (View.wordExact_bits rfl)
    (View.wordExact_bits rfl)) fun _ => k

end Steps

/-! ## The phases -/

section Phases

variable (x : Ops) (d0 : Dev nD)

/-- The barrier semaphore. -/
abbrev barrierSem : Sem sig := (SemArray.scalar (sig.barrier 0 rfl) : Sems sig S_).sem

/-- Meet the two neighbours. -/
def meet (k : Body F) : Body F :=
  .op (.semSignal ((⟨k0_dev1 d0, k0_dev1_lt d0⟩ : Dev nD), .tc) barrierSem (1#32 : BitVec 32).toInt) fun _ =>
  .op (.semSignal ((⟨k0_dev2 d0, k0_dev2_lt d0⟩ : Dev nD), .tc) barrierSem (1#32 : BitVec 32).toInt) fun _ =>
  .op (.semWait barrierSem (2#32 : BitVec 32).toInt) fun _ => k

/-- The rectangle of a whole buffer. -/
abbrev allO : Rect S1536x1536 :=
  Rect.unit (s := S1536x1536) ![0, 0] S1536x1536.size inb_S1536x1536_S1536x1536_0_0

/-- The device's own product. -/
def product (k : Body F) : Body F :=
  .op (.load x.a (Rect.unit (s := S1536x768) ![0, 0] S1536x768.size inb_S1536x768_S1536x768_0_0).toLoadRect
    (View.loadsAt_vmem h_S1536x768)) fun v =>
  .op (.load x.b (Rect.unit (s := S768x1536) ![0, 0] S768x1536.size inb_S768x1536_S768x1536_0_0).toLoadRect
    (View.loadsAt_vmem h_S768x1536)) fun w =>
  .op (.load x.o allO.toLoadRect (View.loadsAt_vmem h_S1536x1536)) fun _ =>
  .op (.store x.o allO (k0_pay2 (F := F) v w) Finset.univ (View.stores_vmem_bits_univ h_S1536x1536 rfl) (.inl rfl))
    fun _ => k

/-- The activation, of the whole output buffer in place. -/
def activate (k : Body F) : Body F :=
  .op (.load x.o allO.toLoadRect (View.loadsAt_vmem h_S1536x1536)) fun v =>
  .op (.load x.o allO.toLoadRect (View.loadsAt_vmem h_S1536x1536)) fun _ =>
  .op (.store x.o allO (k0_pay1 (F := F) v) Finset.univ (View.stores_vmem_bits_univ h_S1536x1536 rfl) (.inl rfl))
    fun _ => k

/-- Step `s` of the reduce-scatter up to its accumulations. -/
def rsStep (s : Fin 31) (k : Body F) : Body F :=
  rsStart x true (dest true d0) s (offSend true d0 s) (offSend_in true d0 s) <|
  rsStart x false (dest false d0) s (offSend false d0 s) (offSend_in false d0 s) <|
  rsRecv x true s (offSend true d0 s) (offSend_in true d0 s) <|
  rsAdd x true s (offAcc true d0 s) (offAcc_in true d0 s) <|
  rsRecv x false s (offSend false d0 s) (offSend_in false d0 s) <|
  rsAdd x false s (offAcc false d0 s) (offAcc_in false d0 s) k

/-- The departures of step `s` of the reduce-scatter are over. -/
def rsDone (s : Fin 31) (k : Body F) : Body F :=
  rsWait x true s (offSend true d0 s) (offSend_in true d0 s) <|
  rsWait x false s (offSend false d0 s) (offSend_in false d0 s) k

/-- Step `s` of the all-gather up to its arrivals. -/
def gStep (s : Fin 31) (k : Body F) : Body F :=
  gStart x true (dest true d0) s (offGat true d0 s) (offGat_in true d0 s) <|
  gStart x false (dest false d0) s (offGat false d0 s) (offGat_in false d0 s) <|
  gWait x s (offGat true d0 s) (offGat_in true d0 s) (a := x.rs true) <|
  gWait x s (offGat false d0 s) (offGat_in false d0 s) (a := x.rs false) k

/-- The departures of step `s` of the all-gather are over. -/
def gDone (s : Fin 31) (k : Body F) : Body F :=
  gWait x s (offGat true d0 s) (offGat_in true d0 s) (a := x.ss true) <|
  gWait x s (offGat false d0 s) (offGat_in false d0 s) (a := x.ss false) k

/-- `n` steps of the reduce-scatter after step `s`, each with the departures of the step before it. -/
def rsLoop : (n s : ℕ) → s + n = 30 → Body F → Body F
  | 0, _, _, k => k
  | n + 1, s, h, k =>
    rsStep x d0 ⟨s + 1, by omega⟩ <| rsDone x d0 ⟨s, by omega⟩ <| rsLoop n (s + 1) (by omega) k

/-- `n` steps of the all-gather after step `s`, each with the departures of the step before it. -/
def gLoop : (n s : ℕ) → s + n = 30 → Body F → Body F
  | 0, _, _, k => k
  | n + 1, s, h, k =>
    gStep x d0 ⟨s + 1, by omega⟩ <| gDone x d0 ⟨s, by omega⟩ <| gLoop n (s + 1) (by omega) k

/-- The body. -/
def prog : Body F :=
  .op .deviceId fun d0 =>
  meet d0 <| product x <|
  rsStep x d0 0 <| rsLoop x d0 30 0 rfl <|
  gStep x d0 0 <| rsDone x d0 30 <| gLoop x d0 30 0 rfl <| gDone x d0 30 <|
  activate x (.ret ⟨⟩)

end Phases

/-- The operands as the printed body takes them. -/
abbrev opsOf (arg0 : Memref sig .tc .vmem S1536x768 .f32) (arg1 : Memref sig .tc .vmem S768x1536 .f32)
    (arg2 : Memref sig .tc .vmem S1536x1536 .f32) (arg3 arg4 : Memref sig .tc .vmem S31x24x1536 .f32)
    (arg5 arg6 arg7 arg8 : DmaSems sig S31) : Ops where
  a := arg0
  b := arg1
  o := arg2
  cm := fun | true => arg3 | false => arg4
  ss := fun | true => arg5 | false => arg7
  rs := fun | true => arg6 | false => arg8

set_option maxRecDepth 1000000 in
/-- The printed body is the regrouped one: the same operations in the same order. -/
theorem cc0_body_eq_prog (arg0 : Memref sig .tc .vmem S1536x768 .f32) (harg0 : arg0.IsWhole)
    (arg1 : Memref sig .tc .vmem S768x1536 .f32) (harg1 : arg1.IsWhole)
    (arg2 : Memref sig .tc .vmem S1536x1536 .f32) (harg2 : arg2.IsWhole)
    (arg3 : Memref sig .tc .vmem S31x24x1536 .f32) (harg3 : arg3.IsWhole)
    (arg4 : Memref sig .tc .vmem S31x24x1536 .f32) (harg4 : arg4.IsWhole)
    (arg5 arg6 arg7 arg8 : DmaSems sig S31) :
    cc0_body (F := F) arg0 harg0 arg1 harg1 arg2 harg2 arg3 harg3 arg4 harg4 arg5 arg6 arg7 arg8
      = prog (opsOf arg0 arg1 arg2 arg3 arg4 arg5 arg6 arg7 arg8) := rfl

end Cert.RingProof

end
-- ==== Proof.Common.lean ====
/-
The ring of 32 devices: neighbours, the blocks of rows that travel round it, what each block holds at each step, the
semaphore cells, and the schedule of who raises which cell, by how much, and what the owner of the cell gets with it.

A step of the ring is a number `g < 62`: the reduce-scatter is the steps below 31, the all-gather the rest.
-/
module

public import proofs.«01_k».proof.Proof.Prog
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra -/

/-- The ring's own part of the ghost state, -/
abbrev UB : Type := URounds (GSem nD τ sig) Bool
/-- and all of it, the pipeline's first. -/
abbrev UU : Type := UR sig nD τ × UB

local notation "𝕄" => MT nD τ sig ℕ (Elt F) ℕ UU ℕ

/-- Where the pipeline's part lies in it, -/
abbrev EP : Emb (UR sig nD τ) (MT nD τ sig ℕ (Elt F) ℕ UU ℕ) := embL
/-- and where the ring's does. -/
abbrev ER : Emb UB (MT nD τ sig ℕ (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## Neighbours -/

/-- The device that direction `b` sends to. -/
def dn (b : Bool) (c : Dev nD) : Dev nD := ⟨(c.val + if b then 1 else 31) % 32, Nat.mod_lt _ (by decide)⟩
/-- The device that direction `b` receives from. -/
abbrev up (b : Bool) (c : Dev nD) : Dev nD := dn (!b) c

/-- Sending reaches the device from whose side one receives, -/
theorem dn_up (b : Bool) (c : Dev nD) : dn b (up b c) = c := by revert b c; decide
/-- and the other way round. -/
theorem up_dn (b : Bool) (c : Dev nD) : up b (dn b c) = c := by revert b c; decide
/-- The number of the device sent to. -/
theorem dn_val (b : Bool) (c : Dev nD) : (dn b c).val = (c.val + if b then 1 else 31) % 32 := rfl

/-- The copies' target is the next device. -/
theorem dest_eq (b : Bool) (c : Dev nD) : dest b c = dn b c :=
  match b with
  | true => Fin.ext (k0_dev3_eq c)
  | false => Fin.ext (k0_dev4_eq c)
/-- The first signal goes to the device before in one direction, -/
theorem dev1_eq (c : Dev nD) : (⟨k0_dev1 c, k0_dev1_lt c⟩ : Dev nD) = up true c := Fin.ext (k0_dev1_eq c)
/-- the second to that of the other. -/
theorem dev2_eq (c : Dev nD) : (⟨k0_dev2 c, k0_dev2_lt c⟩ : Dev nD) = up false c := Fin.ext (k0_dev2_eq c)

/-! ## Blocks of rows -/

/-- The offsets of the block that device `c` sends at step `k` of direction `b`. -/
def pOff (b : Bool) (c : Dev nD) (k : ℕ) : Fin 2 → ℕ :=
  ![48 * ((c.val + (if b then 31 else 1) * k) % 32) + (if b then 0 else 24), 0]

/-- The block lies within the result. -/
theorem pOff_in (b : Bool) (c : Dev nD) (k : ℕ) : OffIn (pOff b c k) := by
  intro a
  have h : (c.val + (if b then 31 else 1) * k) % 32 < 32 := Nat.mod_lt _ (by decide)
  fin_cases a
  · show 48 * ((c.val + (if b then 31 else 1) * k) % 32) + (if b then 0 else 24) + 24 ≤ 1536
    have h' : (if b then 0 else 24) ≤ 24 := by split <;> omega
    omega
  · show 0 + 1536 ≤ 1536
    omega

/-- 32 steps later the same block is met again, -/
theorem pOff_period (b : Bool) (c : Dev nD) (k : ℕ) : pOff b c (k + 32) = pOff b c k := by
  unfold pOff
  have : (c.val + (if b then 31 else 1) * (k + 32)) % 32 = (c.val + (if b then 31 else 1) * k) % 32 := by
    cases b <;> simp only [if_true, if_false, Bool.false_eq_true] <;> omega
  rw [this]

/-- and the next device meets it a step later. -/
theorem pOff_dn (b : Bool) (c : Dev nD) (k : ℕ) : pOff b (dn b c) (k + 1) = pOff b c k := by
  unfold pOff
  have : ((dn b c).val + (if b then 31 else 1) * (k + 1)) % 32 = (c.val + (if b then 31 else 1) * k) % 32 := by
    rw [dn_val]; cases b <;> simp only [if_true, if_false, Bool.false_eq_true] <;> omega
  rw [this]

/-- Two offsets agree where their rows do. -/
theorem vec2_congr {a b : ℕ} (h : a = b) : (![a, 0] : Fin 2 → ℕ) = ![b, 0] := by rw [h]

/-- The block that the reduce-scatter sends at step `s` is that of step `s`, -/
theorem offSend_eq (b : Bool) (c : Dev nD) (s : Fin 31) : offSend b c s = pOff b c s.val := by
  have hs := s.isLt
  have hc : c.val < 32 := c.isLt
  cases b
  · exact (k0_off2_eq c s).trans (vec2_congr (by simp only [if_false, Bool.false_eq_true]; omega))
  · exact (k0_off1_eq c s).trans (vec2_congr (by simp only [if_true]; omega))
/-- the one it adds to is that of the step after, -/
theorem offAcc_eq (b : Bool) (c : Dev nD) (s : Fin 31) : offAcc b c s = pOff b c (s.val + 1) := by
  have hs := s.isLt
  have hc : c.val < 32 := c.isLt
  cases b
  · exact (k0_off4_eq c s).trans (vec2_congr (by simp only [if_false, Bool.false_eq_true]; omega))
  · exact (k0_off3_eq c s).trans (vec2_congr (by simp only [if_true]; omega))
/-- and the all-gather sends that of step `s + 31`. -/
theorem offGat_eq (b : Bool) (c : Dev nD) (s : Fin 31) : offGat b c s = pOff b c (s.val + 31) := by
  have hs := s.isLt
  have hc : c.val < 32 := c.isLt
  cases b
  · exact (k0_off6_eq c s).trans (vec2_congr (by simp only [if_false, Bool.false_eq_true]; omega))
  · exact (k0_off5_eq c s).trans (vec2_congr (by simp only [if_true]; omega))

/-! ## The operands and the cells -/

/-- The operands of the body as launched. -/
abbrev X : Ops :=
  opsOf (Memref.whole cc0_stg0_0) (Memref.whole cc0_stg1_0) (Memref.whole cc0_stg2_0) (Memref.whole cc0_scratch0)
    (Memref.whole cc0_scratch1) cc0_scratch2 cc0_scratch3 cc0_scratch4 cc0_scratch5

/-- A step's slot and semaphore number. -/
abbrev fs (g : ℕ) : Fin 31 := ⟨g % 31, Nat.mod_lt _ (by decide)⟩

/-- The kinds of cell: the barrier (`none`), and of each direction and number a cell of departures (`false`) and a cell
    of arrivals (`true`). -/
abbrev CK : Type := Option (Bool × Bool × Fin 31)

/-- The semaphores of departures and of arrivals of a direction. -/
abbrev semsOf (rv b : Bool) : DmaSems sig S31 :=
  match rv with
  | true => X.rs b
  | false => X.ss b

/-- The semaphore of each kind of cell. -/
abbrev csem : CK → SemLoc sig
  | none => .reg barrierSem
  | some (rv, b, s) => .dma (semAt (semsOf rv b) s)

/-- The kind of cell a semaphore makes, if one of this kernel's. -/
def dec : SemLoc sig → Option CK
  | .reg q => if q = barrierSem then some none else none
  | .dma q =>
    if 3 ≤ q.val then
      some (some (decide ((q.val - 3) / 31 % 2 = 1), decide ((q.val - 3) / 62 = 0), fs (q.val - 3)))
    else none

/-- The number of each semaphore. -/
theorem semAt_val (rv b : Bool) (s : Fin 31) :
    (semAt (semsOf rv b) s).val = 3 + (if rv then 31 else 0) + (if b then 0 else 62) + s.val := by
  revert rv b s; decide

/-- A semaphore's kind is the one that it was made from, -/
theorem dec_csem (k : CK) : dec (csem k) = some k := by
  match k with
  | none => rfl
  | some (rv, b, s) =>
    have hs := s.isLt
    have h := semAt_val rv b s
    show (if 3 ≤ (semAt (semsOf rv b) s).val then
      some (some (decide (((semAt (semsOf rv b) s).val - 3) / 31 % 2 = 1),
        decide (((semAt (semsOf rv b) s).val - 3) / 62 = 0), fs ((semAt (semsOf rv b) s).val - 3))) else none) = _
    rw [h]
    rw [if_pos (by omega)]
    have h3 : fs (3 + (if rv then 31 else 0) + (if b then 0 else 62) + s.val - 3) = s := by
      apply Fin.ext
      show (3 + (if rv then 31 else 0) + (if b then 0 else 62) + s.val - 3) % 31 = s.val
      cases rv <;> cases b <;> simp only [if_true, if_false, Bool.false_eq_true] <;> omega
    rw [h3]
    have h1 : decide ((3 + (if rv then 31 else 0) + (if b then 0 else 62) + s.val - 3) / 31 % 2 = 1) = rv := by
      cases rv <;> cases b <;> simp only [if_true, if_false, Bool.false_eq_true, decide_eq_true_eq, decide_eq_false_iff_not] <;> omega
    have h2 : decide ((3 + (if rv then 31 else 0) + (if b then 0 else 62) + s.val - 3) / 62 = 0) = b := by
      cases rv <;> cases b <;> simp only [if_true, if_false, Bool.false_eq_true, decide_eq_true_eq, decide_eq_false_iff_not] <;> omega
    rw [h1, h2]

/-- so different kinds have different semaphores. -/
theorem csem_injective : Function.Injective csem := fun k k' h => by
  have := congrArg dec h
  rw [dec_csem, dec_csem] at this
  exact Option.some.inj this

/-- A device's cell of each kind. -/
abbrev kcell (ck : Dev nD × CK) : GSem nD τ sig := ((ck.1 : Thread nD τ), csem ck.2)

/-- Different cells are different semaphores. -/
theorem kcell_injective : Function.Injective kcell := by
  rintro ⟨c, k⟩ ⟨c', k'⟩ h
  have h1 : c = c' := congrArg (fun g : GSem nD τ sig => g.1.1) h
  have h2 : csem k = csem k' := congrArg Prod.snd h
  rw [h1, csem_injective h2]

/-- The cell of the barrier. -/
abbrev barCell (c : Dev nD) : GSem nD τ sig := kcell (c, none)
/-- The cell of departures of step `g`, -/
abbrev sCell (b : Bool) (c : Dev nD) (g : ℕ) : GSem nD τ sig := kcell (c, some (false, b, fs g))
/-- and the cell of arrivals. -/
abbrev rCell (b : Bool) (c : Dev nD) (g : ℕ) : GSem nD τ sig := kcell (c, some (true, b, fs g))

/-- The credit of a transfer of one block. -/
@[irreducible] def N : ℕ := (rowM X.o (pOff true 0 0) (pOff_in true 0 0)).view.dmaCredit
/-- A transfer's credit is not zero. -/
theorem N_pos : 0 < N := by unfold N; exact View.dmaCredit_pos _ (by decide)

/-- Every block of the result has this credit, -/
theorem credit_row (off : Fin 2 → ℕ) (h : OffIn off) : (rowM X.o off h).view.dmaCredit = N := by unfold N; rfl
/-- and so has every landing slot. -/
theorem credit_slot (b : Bool) (s : Fin 31) : (slotM (X.cm b) s).view.dmaCredit = N := by
  unfold N; cases b <;> rfl

/-! ## Contents -/

/-- A block of rows. -/
abbrev Rows (F : FTy → Type) [FloatOps F] : Type := S24x1536.Idx → Elt F .f32

/-- The device's two blocks as staged, -/
def As (c : Dev nD) : Vec F S1536x768 .f32 :=
  (win0_0.blk (0 : Fin 1)).view.read (Elt F) ((s₀ m ρ).mem ((c : Thread nD τ).loc main_arg0))
/-- both of them, -/
def Bs (c : Dev nD) : Vec F S768x1536 .f32 :=
  (win0_1.blk (0 : Fin 1)).view.read (Elt F) ((s₀ m ρ).mem ((c : Thread nD τ).loc main_arg1))
/-- and its own product. -/
def zs (c : Dev nD) : Vec F S1536x1536 .f32 := k0_pay2 (As m ρ c) (Bs m ρ c)

/-- The block of the own product that step `k` sends. -/
def zp (b : Bool) (c : Dev nD) (k : ℕ) : Rows F := fun j => zs m ρ c ((rowRect (pOff b c k) (pOff_in b c k)).emb j)

/-- A block as the landing buffer's slot holds it. -/
def inSlot (v : Rows F) : S1x24x1536.Idx → Elt F .f32 :=
  fun j => v ((Shape.reshapeEquiv squeezes_S1x24x1536_S24x1536.numel_eq).symm j)

/-- Two blocks added. -/
def plus (v w : Rows F) : Rows F := k0_pay3 (F := F) v (inSlot w)

/-- What the block sent at step `g` holds: in the reduce-scatter the own block added to what came in, in the all-gather
    what came in. -/
def Cv (b : Bool) : ℕ → Dev nD → Rows F
  | 0, c => zp m ρ b c 0
  | g + 1, c => if g < 31 then plus (zp m ρ b c (g + 1)) (Cv b g (up b c)) else Cv b g (up b c)

/-- A step of the reduce-scatter adds the own block to what comes in, -/
theorem Cv_acc (b : Bool) (c : Dev nD) {g : ℕ} (h : g < 31) :
    Cv m ρ b (g + 1) c = plus (zp m ρ b c (g + 1)) (Cv m ρ b g (up b c)) := by rw [Cv, if_pos h]
/-- a step of the all-gather keeps what comes in. -/
theorem Cv_gat (b : Bool) (c : Dev nD) {g : ℕ} (h : ¬ g < 31) : Cv m ρ b (g + 1) c = Cv m ρ b g (up b c) := by
  rw [Cv, if_neg h]

/-! ## Ownership -/

/-- Device `c` holds the block of step `k`, at contents `v`. -/
def piece (b : Bool) (c : Dev nD) (k : ℕ) (v : Rows F) : sProp 𝕄 :=
  owns (c : Thread nD τ) (rowM X.o (pOff b c k) (pOff_in b c k)) fullShare v
/-- Device `c` holds the landing slot of step `g`, at contents `v`. -/
def slotAt (b : Bool) (c : Dev nD) (g : ℕ) (v : Rows F) : sProp 𝕄 :=
  owns (c : Thread nD τ) (slotM (X.cm b) (fs g)) fullShare v

/-- A held block may be kept in an invariant, -/
instance piece_storable (b : Bool) (c : Dev nD) (k : ℕ) (v : Rows F) :
    BI.Storable (upEmb : UEmb _ 𝕄) (piece b c k v) := by unfold piece; infer_instance
/-- and so may a landing slot. -/
instance slotAt_storable (b : Bool) (c : Dev nD) (g : ℕ) (v : Rows F) :
    BI.Storable (upEmb : UEmb _ 𝕄) (slotAt b c g v) := by unfold slotAt; infer_instance

omit [FloatOps F] in
/-- Blocks at equal offsets are the same. -/
theorem rowM_congr {off off' : Fin 2 → ℕ} (h : off = off') (hi : OffIn off) (hi' : OffIn off') :
    rowM X.o off hi = rowM X.o off' hi' := by subst h; rfl

/-- A held block depends only on where it lies. -/
theorem piece_congr (b b' : Bool) (c : Dev nD) (d : Dev nD) (k k' : ℕ) (hd : c = d) (h : pOff b c k = pOff b' d k') (v : Rows F) :
    (piece b c k v : sProp 𝕄) = piece b' d k' v := by
  subst hd; unfold piece; rw [rowM_congr h (pOff_in _ _ _) (pOff_in _ _ _)]
/-- The blocks repeat after 32 steps. -/
theorem piece_period (b : Bool) (c : Dev nD) (k : ℕ) (v : Rows F) :
    (piece b c (k + 32) v : sProp 𝕄) = piece b c k v := piece_congr b b c c _ _ rfl (pOff_period b c k) v

/-- Where step `j` of device `c` lands: free for it on the next device, which is ready for the arrival. -/
def Lnd (b : Bool) (c : Dev nD) (j : ℕ) : sProp 𝕄 :=
  iprop((if j < 31 then iprop(∃ v, slotAt b (dn b c) j v) else iprop(∃ v, piece b (dn b c) (j + 1) v))
    ∗ reached ER (rCell b (dn b c) j) (j / 31))
/-- A free landing place may be kept in an invariant, -/
instance Lnd_storable (b : Bool) (c : Dev nD) (j : ℕ) : BI.Storable (upEmb : UEmb _ 𝕄) (Lnd (F := F) b c j) := by
  unfold Lnd; split <;> infer_instance

/-- What else an arrival hands over: where the other direction's next step may land. -/
def hand (b : Bool) (c : Dev nD) (g : ℕ) : sProp 𝕄 :=
  if 30 ≤ g ∧ g ≤ 60 then Lnd (!b) c (g + 1) else iprop(emp)
/-- and so may what an arrival hands on, -/
instance hand_storable (b : Bool) (c : Dev nD) (g : ℕ) : BI.Storable (upEmb : UEmb _ 𝕄) (hand (F := F) b c g) := by
  unfold hand; split <;> infer_instance

/-- What arrives at device `c` at step `g`. -/
def got (b : Bool) (c : Dev nD) (g : ℕ) : sProp 𝕄 :=
  if g < 31 then slotAt b c g (Cv m ρ b g (up b c)) else piece b c (g + 1) (Cv m ρ b (g + 1) c)
/-- what it brings, -/
instance got_storable (b : Bool) (c : Dev nD) (g : ℕ) : BI.Storable (upEmb : UEmb _ 𝕄) (got (F := F) m ρ b c g) := by
  unfold got; split <;> infer_instance

/-- What a raise of the cell of arrivals hands over, -/
def recvPay (b : Bool) (c : Dev nD) (g : ℕ) : sProp 𝕄 := iprop(got m ρ b c g ∗ hand b c g)
/-- what one of the cell of departures does: the block sent; -/
def sendPay (b : Bool) (c : Dev nD) (g : ℕ) : sProp 𝕄 := piece b c g (Cv m ρ b g c)
/-- and what meeting a neighbour does: its landing slots. -/
def barPay (b : Bool) (c : Dev nD) : sProp 𝕄 := bigSep (Finset.Ico 0 31) fun j => Lnd (F := F) b c j

/-- both together, -/
instance recvPay_storable (b : Bool) (c : Dev nD) (g : ℕ) : BI.Storable (upEmb : UEmb _ 𝕄) (recvPay (F := F) m ρ b c g) := by
  unfold recvPay; infer_instance
/-- what a departure gives back, -/
instance sendPay_storable (b : Bool) (c : Dev nD) (g : ℕ) : BI.Storable (upEmb : UEmb _ 𝕄) (sendPay (F := F) m ρ b c g) := by
  unfold sendPay; infer_instance
/-- and what meeting a neighbour gives. -/
instance barPay_storable (b : Bool) (c : Dev nD) : BI.Storable (upEmb : UEmb _ 𝕄) (barPay (F := F) b c) := by
  unfold barPay; infer_instance

/-! ## The schedule -/

/-- Who raises a cell in each round, -/
def dutiesK : Option CK → ℕ → Finset Bool
  | none, _ => ∅
  | some none, r => if r < 1 then Finset.univ else ∅
  | some (some _), r => if r < 2 then {false} else ∅
/-- by how much, -/
def amountK : Option CK → ℕ
  | some (some _) => N
  | _ => 1
/-- and what a raise hands over. -/
def payK (c : Dev nD) : Option CK → ℕ → Bool → sProp 𝕄
  | none, _, _ => iprop(emp)
  | some none, _, d => barPay d c
  | some (some (true, b, s)), r, _ => recvPay m ρ b c (s.val + 31 * r)
  | some (some (false, b, s)), r, _ => sendPay m ρ b c (s.val + 31 * r)

/-- A barrier cell is raised once by each neighbour; a cell of departures or arrivals once in each of two rounds, by a
    block's credit. -/
def ringRd : Rounds.Schedule (GSem nD τ sig) Bool 𝕄 where
  duties g r := dutiesK (dec g.2) r
  unitless _ := False
  amount g _ _ := amountK (dec g.2)
  payload g r d := payK m ρ g.1.1 (dec g.2) r d
  amount_pos g _ _ _ := by
    show 0 < amountK (dec g.2)
    unfold amountK; split
    · exact N_pos
    · exact Nat.one_pos

/-- What a raise hands over may be kept in an invariant. -/
instance ringRd_payload_storable (g : GSem nD τ sig) (r : ℕ) (d : Bool) :
    BI.Storable (upEmb : UEmb _ 𝕄) ((ringRd (F := F) m ρ).payload g r d) := by
  show BI.Storable upEmb (payK m ρ g.1.1 (dec g.2) r d)
  unfold payK; split <;> infer_instance

section Sched
variable (c : Dev nD) (b : Bool)

/-- Both neighbours raise the barrier's cell; -/
theorem duties_bar : (ringRd (F := F) m ρ).duties (barCell c) 0 = Finset.univ := rfl
/-- a transfer's cell is raised once in each of its two rounds, -/
theorem duties_cell (rv : Bool) (s : Fin 31) {r : ℕ} (h : r < 2) :
    (ringRd (F := F) m ρ).duties (kcell (c, some (rv, b, s))) r = {false} := by
  show dutiesK (dec (csem (some (rv, b, s)))) r = _
  rw [dec_csem]; exact if_pos h
/-- and not after them; -/
theorem duties_cell_later (rv : Bool) (s : Fin 31) (r : ℕ) (h : 2 ≤ r) :
    (ringRd (F := F) m ρ).duties (kcell (c, some (rv, b, s))) r = ∅ := by
  show dutiesK (dec (csem (some (rv, b, s)))) r = _
  rw [dec_csem]; exact if_neg (by omega)
/-- nor is the barrier's after its round. -/
theorem duties_bar_later (r : ℕ) (h : 1 ≤ r) : (ringRd (F := F) m ρ).duties (barCell c) r = ∅ := by
  show dutiesK (dec (csem none)) r = _
  rw [dec_csem]; exact if_neg (by omega)

/-- A raise of the barrier's cell is by one, -/
theorem amount_bar (d : Bool) : (ringRd (F := F) m ρ).amount (barCell c) 0 d = 1 := rfl
/-- one of a transfer's by a block's credit. -/
theorem amount_cell (rv : Bool) (s : Fin 31) (r : ℕ) (d : Bool) :
    (ringRd (F := F) m ρ).amount (kcell (c, some (rv, b, s))) r d = N := by
  show amountK (dec (csem (some (rv, b, s)))) = _
  rw [dec_csem]; rfl

/-- So the barrier waits for two, -/
theorem expect_bar : (ringRd (F := F) m ρ).expect (barCell c) 0 = 2 := by
  unfold Schedule.expect Schedule.amountOf
  rw [duties_bar, Finset.sum_congr rfl fun d _ => amount_bar m ρ c d, Finset.sum_const, Finset.card_univ, Fintype.card_bool, smul_eq_mul]
/-- and a transfer for one credit. -/
theorem expect_cell (rv : Bool) (s : Fin 31) {r : ℕ} (h : r < 2) :
    (ringRd (F := F) m ρ).expect (kcell (c, some (rv, b, s))) r = N := by
  unfold Schedule.expect Schedule.amountOf; rw [duties_cell m ρ c b rv s h, Finset.sum_singleton, amount_cell]

/-- What meeting a neighbour hands over. -/
theorem payload_bar (d : Bool) : (ringRd (F := F) m ρ).payload (barCell c) 0 d = barPay d c := rfl
/-- A step is its slot and its round. -/
theorem fs_add (g : ℕ) : (fs g).val + 31 * (g / 31) = g := Nat.mod_add_div g 31
/-- What a departure hands over, -/
theorem payload_send (g : ℕ) (d : Bool) : (ringRd (F := F) m ρ).payload (sCell b c g) (g / 31) d = sendPay m ρ b c g := by
  show payK m ρ c (dec (csem (some (false, b, fs g)))) (g / 31) d = _
  rw [dec_csem]
  show sendPay m ρ b c ((fs g).val + 31 * (g / 31)) = _
  rw [fs_add]
/-- and what an arrival does. -/
theorem payload_recv (g : ℕ) (d : Bool) : (ringRd (F := F) m ρ).payload (rCell b c g) (g / 31) d = recvPay m ρ b c g := by
  show payK m ρ c (dec (csem (some (true, b, fs g)))) (g / 31) d = _
  rw [dec_csem]
  show recvPay m ρ b c ((fs g).val + 31 * (g / 31)) = _
  rw [fs_add]

/-- All that the barrier hands over, -/
theorem rest_bar : bigSep ((ringRd (F := F) m ρ).duties (barCell c) 0 \ ∅) (fun d => (ringRd (F := F) m ρ).payload (barCell c) 0 d)
    = iprop(barPay true c ∗ barPay false c) := by
  rw [Finset.sdiff_empty, duties_bar, bigSep_univ_eq_bigSepL [true, false] (by decide) (by decide), bigSepL_cons_cons, bigSepL_singleton,
    payload_bar, payload_bar]
  rfl
/-- all that a departure does, -/
theorem rest_send {g : ℕ} (h : g < 62) :
    bigSep ((ringRd (F := F) m ρ).duties (sCell b c g) (g / 31) \ ∅) (fun d => (ringRd (F := F) m ρ).payload (sCell b c g) (g / 31) d)
      = sendPay m ρ b c g := by
  rw [Finset.sdiff_empty, duties_cell m ρ c b _ _ (by omega), bigSep_singleton, payload_send]
/-- and all that an arrival does. -/
theorem rest_recv {g : ℕ} (h : g < 62) :
    bigSep ((ringRd (F := F) m ρ).duties (rCell b c g) (g / 31) \ ∅) (fun d => (ringRd (F := F) m ρ).payload (rCell b c g) (g / 31) d)
      = recvPay m ρ b c g := by
  rw [Finset.sdiff_empty, duties_cell m ρ c b _ _ (by omega), bigSep_singleton, payload_recv]

end Sched

/-! ## What a device owes, and the levels -/

/-- The arrivals that device `c` owes the next device of direction `b` from step `n` on, -/
def OwD (b : Bool) (c : Dev nD) (n : ℕ) : CellTallies nD τ sig ℕ :=
  ∑ j ∈ Finset.Ico n 62, tallyAt (rCell b (dn b c) j) (j / 31) N
/-- all it owes after `n` steps of the one and `n'` of the other, -/
def Ow (c : Dev nD) (n n' : ℕ) : CellTallies nD τ sig ℕ := OwD true c n + OwD false c n'
/-- and what it owes at launch: the meeting as well. -/
def O₁ (c : Dev nD) : CellTallies nD τ sig ℕ := Ow c 0 0 + tallyAt (barCell (up false c)) 0 1
/-- with the second neighbour's as well. -/
def O₀ (c : Dev nD) : CellTallies nD τ sig ℕ := O₁ c + tallyAt (barCell (up true c)) 0 1

/-- A step pays one arrival, -/
theorem OwD_succ (b : Bool) (c : Dev nD) {n : ℕ} (h : n < 62) :
    OwD b c n = OwD b c (n + 1) + tallyAt (rCell b (dn b c) n) (n / 31) N := by
  unfold OwD
  rw [show Finset.Ico n 62 = insert n (Finset.Ico (n + 1) 62) by ext x; simp only [Finset.mem_Ico, Finset.mem_insert]; omega,
    Finset.sum_insert (by rw [Finset.mem_Ico]; omega), add_comm]
/-- after the last step nothing is owed in a direction, -/
theorem OwD_end (b : Bool) (c : Dev nD) : OwD b c 62 = 0 := by
  unfold OwD; rw [Finset.Ico_self, Finset.sum_empty]
/-- nor in both. -/
theorem Ow_end (c : Dev nD) : Ow c 62 62 = 0 := by unfold Ow; rw [OwD_end, OwD_end, add_zero]
/-- A step of the one direction, -/
theorem Ow_true (c : Dev nD) {n : ℕ} (n' : ℕ) (h : n < 62) :
    Ow c n n' = Ow c (n + 1) n' + tallyAt (rCell true (dn true c) n) (n / 31) N := by
  unfold Ow; rw [OwD_succ true c h, add_right_comm]
/-- and one of the other. -/
theorem Ow_false (c : Dev nD) (n : ℕ) {n' : ℕ} (h : n' < 62) :
    Ow c n n' = Ow c n (n' + 1) + tallyAt (rCell false (dn false c) n') (n' / 31) N := by
  unfold Ow; rw [OwD_succ false c h, add_assoc]

/-- The rounds in which a cell has a level, -/
def L (g : GSem nD τ sig) : Finset ℕ := if g.1.2 = .tc then {0, 1} else ∅
/-- Arrivals are above the barrier, each step's above the step before it; all else is below. -/
def lvK : Option CK → ℕ → ℕ
  | some none, _ => 1
  | some (some (true, _, s)), r => 2 + s.val + 31 * r
  | _, _ => 0
/-- The level of a cell in a round. -/
def lv (g : GSem nD τ sig) (r : ℕ) : ℕ := lvK (dec g.2) r

/-- Only the tensor cores' cells have levels, -/
theorem L_of_ne (g : GSem nD τ sig) (h : g.1.2 ≠ .tc) : L g = ∅ := if_neg h
/-- in two rounds each. -/
theorem L_tc (c : Dev nD) (sm : SemLoc sig) : L ((c : Thread nD τ), sm) = {0, 1} := if_pos rfl
/-- The level of an arrival, -/
theorem lv_recv (b : Bool) (c : Dev nD) (g : ℕ) : lv (rCell b c g) (g / 31) = 2 + g := by
  unfold lv
  show lvK (dec (csem (some (true, b, fs g)))) (g / 31) = _
  rw [dec_csem]
  show 2 + (fs g).val + 31 * (g / 31) = _
  rw [Nat.add_assoc, fs_add]
/-- of a departure -/
theorem lv_send (b : Bool) (c : Dev nD) (g r : ℕ) : lv (sCell b c g) r = 0 := by
  unfold lv
  show lvK (dec (csem (some (false, b, fs g)))) r = _
  rw [dec_csem]; rfl
/-- and of the barrier. -/
theorem lv_bar (c : Dev nD) (r : ℕ) : lv (barCell c) r = 1 := by
  unfold lv
  show lvK (dec (csem none)) r = _
  rw [dec_csem]; rfl

/-- What a direction owes is some arrival to come, -/
theorem OwD_pos {b : Bool} {c : Dev nD} {n : ℕ} {g : GSem nD τ sig} {u : ℕ} (h : 0 < OwD b c n g u) :
    ∃ j, n ≤ j ∧ j < 62 ∧ g = rCell b (dn b c) j ∧ u = j / 31 := by
  unfold OwD at h
  rw [Finset.sum_apply, Finsupp.finset_sum_apply] at h
  obtain ⟨j, hj, hp⟩ := Finset.exists_ne_zero_of_sum_ne_zero h.ne'
  rw [tallyAt_apply] at hp
  have hj' := Finset.mem_Ico.mp hj
  by_cases hh : g = rCell b (dn b c) j ∧ u = j / 31
  · exact ⟨j, hj'.1, hj'.2, hh.1, hh.2⟩
  · rw [if_neg hh] at hp; exact absurd rfl hp

/-- and so is what both owe. -/
theorem Ow_pos {c : Dev nD} {n n' : ℕ} {g : GSem nD τ sig} {u : ℕ} (h : 0 < Ow c n n' g u) :
    ∃ b j, min n n' ≤ j ∧ j < 62 ∧ g = rCell b (dn b c) j ∧ u = j / 31 := by
  unfold Ow at h
  rw [Pi.add_apply, Finsupp.add_apply] at h
  rcases Nat.eq_zero_or_pos (OwD true c n g u) with h0 | h0
  · rw [h0, Nat.zero_add] at h
    obtain ⟨j, h1, h2, h3, h4⟩ := OwD_pos h
    exact ⟨false, j, by omega, h2, h3, h4⟩
  · obtain ⟨j, h1, h2, h3, h4⟩ := OwD_pos h0
    exact ⟨true, j, by omega, h2, h3, h4⟩

/-- An arrival has a level. -/
theorem mem_L_rCell (b : Bool) (c : Dev nD) {j : ℕ} (h : j < 62) : j / 31 ∈ L (rCell b c j) := by
  rw [L_tc]
  rcases (show j / 31 = 0 ∨ j / 31 = 1 by omega) with h | h <;> rw [h] <;> decide

/-- A wait at a level below the arrivals still owed is allowed. -/
theorem mayWait_below (c : Dev nD) (sm : SemLoc sig) (r n n' : ℕ) (hr : r < 2) (hl : lv ((c : Thread nD τ), sm) r < 2 + min n n') :
    (levAts L lv : sProp 𝕄) ⊢ MayWait (c : Thread nD τ) sm r (Ow c n n') :=
  MayOwe.of_cut (L := L) (lev := lv) (lv ((c : Thread nD τ), sm) r)
    (fun p hp => by
      rw [Finset.mem_singleton.mp hp, L_tc]
      rcases (show r = 0 ∨ r = 1 by omega) with rfl | rfl
      · exact Finset.mem_insert_self _ _
      · exact Finset.mem_insert_of_mem (Finset.mem_singleton_self _))
    (fun g u hg => by obtain ⟨b, j, -, h2, rfl, rfl⟩ := Ow_pos hg; exact mem_L_rCell _ _ h2)
    (fun p hp => by rw [Finset.mem_singleton.mp hp])
    (fun g u hg => by
      obtain ⟨b, j, h1, h2, rfl, rfl⟩ := Ow_pos hg
      rw [lv_recv]; omega)

/-- What is owed at launch is an arrival or a meeting. -/
theorem O₀_pos {c : Dev nD} {g : GSem nD τ sig} {u : ℕ} (h : 0 < O₀ c g u) :
    (∃ b j, j < 62 ∧ g = rCell b (dn b c) j ∧ u = j / 31) ∨ ∃ d, g = barCell d ∧ u = 0 := by
  unfold O₀ O₁ at h
  rw [Pi.add_apply, Finsupp.add_apply, Pi.add_apply, Finsupp.add_apply, tallyAt_apply, tallyAt_apply] at h
  by_cases h1 : g = barCell (up true c) ∧ u = 0
  · exact .inr ⟨_, h1.1, h1.2⟩
  by_cases h2 : g = barCell (up false c) ∧ u = 0
  · exact .inr ⟨_, h2.1, h2.2⟩
  simp only [if_neg h1, if_neg h2, Nat.add_zero] at h
  obtain ⟨b, j, -, h3, h4, h5⟩ := Ow_pos h
  exact .inl ⟨b, j, h3, h4, h5⟩

/-- The waits of the staging copies are below everything. -/
theorem mayWait_stage (c : Dev nD) (q : DmaSem sig) (hq : dec (.dma q) = none) (O : CellTallies nD τ sig ℕ) (hO : O = O₀ c ∨ O = 0) :
    (levAts L lv : sProp 𝕄) ⊢ MayWait (c : Thread nD τ) (.dma q) 0 O := by
  rcases hO with rfl | rfl
  · refine MayOwe.of_cut (L := L) (lev := lv) 0 (fun p hp => by rw [Finset.mem_singleton.mp hp, L_tc]; exact Finset.mem_insert_self _ _)
      (fun g u hg => by
        rcases O₀_pos hg with ⟨b, j, h1, rfl, rfl⟩ | ⟨d, rfl, rfl⟩
        · exact mem_L_rCell _ _ h1
        · rw [L_tc]; decide)
      (fun p hp => by rw [Finset.mem_singleton.mp hp]; unfold lv; dsimp only; rw [hq]; exact le_rfl)
      (fun g u hg => by
        rcases O₀_pos hg with ⟨b, j, h1, rfl, rfl⟩ | ⟨d, rfl, rfl⟩
        · rw [lv_recv]; omega
        · rw [lv_bar]; omega)
  · rw [MayWait_zero]; iintro -; iempintro

end Cert.RingProof

end
-- ==== Proof.Steps.lean ====
/-
The operations of the ring, one rule each, at a symbolic device, direction and step: a block sent, an arrival or a
departure awaited, a block accumulated.
-/
module

public import proofs.«01_k».proof.Proof.Common

@[expose] public section

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ) (ρ : Dev nD → PrngReg)
variable (K : Dev nD × CK → ℕ)

/-- No loop, so no variants. -/
abbrev 𝒱₀ : Variants := Variants.none

/-- What program `k` on device `c` is proved to do. -/
abbrev WP (c : Dev nD) (k : Body F) (Q : PUnit → sProp 𝕄) : sProp 𝕄 :=
  wp frame (wpE (defs₀ (F := F)) 𝒱₀ (c : Thread nD τ) none) Set.univ k Q

/-- What every device knows: all cells' invariants, that their first rounds are reached, and the levels. -/
def world : sProp 𝕄 :=
  iprop((bigSep Finset.univ fun ck : Dev nD × CK => cellInv ER (ringRd m ρ) (K ck) (kcell ck))
    ∗ (bigSep Finset.univ fun ck : Dev nD × CK => reached ER (kcell ck) 0) ∗ levAts L lv)

/-- The shared records may be copied. -/
instance world_persistent : BI.Persistent (world m ρ K) := by unfold world; infer_instance

/-- The invariant of each cell, -/
theorem inv_at (ck : Dev nD × CK) : world m ρ K ⊢ cellInv ER (ringRd m ρ) (K ck) (kcell ck) := by
  have h : (bigSep Finset.univ fun ck : Dev nD × CK => (cellInv ER (ringRd m ρ) (K ck) (kcell ck) : sProp 𝕄))
      ⊢ cellInv ER (ringRd m ρ) (K ck) (kcell ck) := bigSep_elim (Finset.mem_univ ck)
  unfold world
  iintro ⟨H, -, -⟩
  iapply h; iexact H
/-- and that it has begun. -/
theorem reached_at (ck : Dev nD × CK) : world m ρ K ⊢ (reached ER (kcell ck) 0 : sProp 𝕄) := by
  have h : (bigSep Finset.univ fun ck : Dev nD × CK => (reached ER (kcell ck) 0 : sProp 𝕄)) ⊢ reached ER (kcell ck) 0 :=
    bigSep_elim (Finset.mem_univ ck)
  unfold world
  iintro ⟨-, H, -⟩
  iapply h; iexact H
/-- A device may wait below the arrivals it owes. -/
theorem may_at (c : Dev nD) (ck : CK) (r n n' : ℕ) (hr : r < 2) (hl : lv (kcell (c, ck)) r < 2 + min n n') :
    world m ρ K ⊢ (MayWait (c : Thread nD τ) (csem ck) r (Ow c n n') : sProp 𝕄) := by
  have h := mayWait_below (F := F) c (csem ck) r n n' hr hl
  unfold world
  iintro ⟨-, -, H⟩
  iapply h; iexact H

/-- What a device owes after so many steps of each direction, whatever it has waited on. -/
def owing (c : Dev nD) (n n' : ℕ) : sProp 𝕄 := iprop(∃ W, owes (c : Thread nD τ) (Ow c n n') W)

/-- A memref's elements at contents it reads as `v` are it owned at `v`. -/
theorem owns_of (c : Thread nD τ) {sp : Space} {sh : Shape} {e : EltTy} (M : Memref sig c.2.kind sp sh e)
    (f : M.view.ty.Contents (Elt F)) (v : sh.Idx → Elt F e) (h : M.view.read (Elt F) f = v) :
    (M.view.loc c ↦[M.view.set]{fullShare} f : sProp 𝕄) ⊢ owns c M fullShare v := by
  rw [← h]; exact owns_intro c M fullShare f

/-! ## Sending -/

/-- A block sent to a destination `D` of the next device: the block leaves, the destination and what the arrival hands
    over besides go with it, and the credit of the departure comes back. -/
theorem wp_start (b : Bool) (c : Dev nD) {g : ℕ} (hg : g < 62) {D : Memref sig .tc .vmem S24x1536 .f32}
    (hN : D.view.dmaCredit = N)
    (hpay : iprop(owns (dn b c : Thread nD τ) D fullShare (Cv m ρ b g c) ∗ hand b (dn b c) g) ⊢ recvPay m ρ b (dn b c) g)
    {n n' p p' : ℕ} (hO : Ow c n n' = Ow c p p' + tallyAt (rCell b (dn b c) g) (g / 31) N)
    {d : Dev nD} (hd : d = dn b c) {s : Fin 31} (hs : s = fs g) {off : Fin 2 → ℕ} {h : OffIn off} (hoff : off = pOff b c g)
    {hsc : (D : Memref sig (Dev.tc d : Thread nD τ).2.kind .vmem S24x1536 .f32).view.ref.isScScratch = false}
    {hsrc : (rowM X.o off h).view.WordExact} {hdst : D.view.WordExact}
    {hsem : DmaTarget.Typed .vmem (.dma (semAt (X.rs b) s)) (.remote (Dev.tc d : Thread nD τ) D (.dma (semAt (X.ss b) s)) hsc)}
    {k : Body F} {Q : PUnit → sProp 𝕄} :
    iprop(world m ρ K ∗ piece b c g (Cv m ρ b g c) ∗ (∃ v, owns (dn b c : Thread nD τ) D fullShare v) ∗ hand b (dn b c) g
        ∗ owing c n n'
        ∗ dutyTok ER (sCell b c g) (g / 31) false ∗ reached ER (sCell b c g) (g / 31)
        ∗ dutyTok ER (rCell b (dn b c) g) (g / 31) false ∗ reached ER (rCell b (dn b c) g) (g / 31))
      ⊢ iprop(((cred (tallyAt (sCell b c g) (g / 31) N) ∗ owing c p p') -∗ WP c k Q)
          -∗ WP c (.op (.enqueueDma (rowM X.o off h) (.remote (Dev.tc d : Thread nD τ) D (.dma (semAt (X.ss b) s)) hsc)
              (.dma (semAt (X.rs b) s)) hsrc hdst hsem) fun _ => k) Q) := by
  subst hd hs hoff
  unfold piece owing
  iintro ⟨#HW, Hp, ⟨%v, HD⟩, Hh, ⟨%W, HO⟩, Ht1, Hr1, Ht2, Hr2⟩ Hk
  icases (show owns (c : Thread nD τ) (rowM X.o (pOff b c g) (pOff_in b c g)) fullShare (Cv m ρ b g c)
    ⊢ iprop(∃ f, ⌜(rowM X.o (pOff b c g) (pOff_in b c g)).view.read (Elt F) f = Cv m ρ b g c⌝
        ∗ ((rowM X.o (pOff b c g) (pOff_in b c g)).view.loc (c : Thread nD τ) ↦[(rowM X.o (pOff b c g) (pOff_in b c g)).view.set]{fullShare} f))
    from .rfl) $$ Hp with ⟨%f, %hf, Hp⟩
  icases (show owns (dn b c : Thread nD τ) D fullShare v
    ⊢ iprop(∃ f, ⌜D.view.read (Elt F) f = v⌝ ∗ (D.view.loc (dn b c : Thread nD τ) ↦[D.view.set]{fullShare} f))
    from .rfl) $$ HD with ⟨%fd, %hfd, HD⟩
  iapply (Rounds.wp_send_pointsTo_with 𝒱₀ ER (ringRd m ρ) (c : Thread nD τ) none
    (κ₁ := K (c, some (false, b, fs g))) (κ₂ := K (dn b c, some (true, b, fs g)))
    (r₁ := g / 31) (r₂ := g / 31) (d₁ := false) (d₂ := false) (fs := f) (fd := fd) (F := hand b (dn b c) g)
    (by rw [duties_cell m ρ c b false (fs g) (by omega)]; exact Finset.mem_singleton_self _)
    (by rw [duties_cell m ρ (dn b c) b true (fs g) (by omega)]; exact Finset.mem_singleton_self _)
    (g / 31) (g / 31) N (show D.view.amount (.dma (semAt (X.rs b) (fs g))) = N from hN) (amount_cell m ρ c b false (fs g) _ _) (amount_cell m ρ (dn b c) b true (fs g) _ _)
    (Ow c p p') hO (W := W)
    (by
      rw [payload_send m ρ c b g]
      unfold sendPay piece
      rw [← hf]; exact owns_intro _ _ _ _)
    (by
      rw [payload_recv m ρ (dn b c) b g]
      iintro ⟨H, Hh⟩
      iapply hpay
      isplitl [H]
      · ihave H := (owns_intro (dn b c : Thread nD τ) D fullShare _) $$ H
        rw [View.read_write_univ, hf]
        iexact H
      · iexact Hh)) $$ [Hp HD Hh HO Ht1 Hr1 Ht2 Hr2]
  · isplitr; · iapply (inv_at m ρ K (c, some (false, b, fs g))); iexact HW
    isplitr; · iapply (inv_at m ρ K (dn b c, some (true, b, fs g))); iexact HW
    isplitl [Hp]; · iexact Hp
    isplitl [HD Hh]
    · isplitl [HD]; · iexact HD
      iexact Hh
    isplitl [HO]; · iexact HO
    isplitl [Ht1]; · iexact Ht1
    isplitl [Hr1]; · iexact Hr1
    isplitl [Ht2]; · iexact Ht2
    iexact Hr2
  iintro ⟨Hc, HO⟩
  iapply Hk
  isplitl [Hc]; · iexact Hc
  iexists W; iexact HO

/-! ## Waiting -/

/-- A cell serves the step 31 later too, -/
theorem cell_next (rv b : Bool) (c : Dev nD) (g : ℕ) :
    kcell (c, some (rv, b, fs (g + 31))) = kcell (c, some (rv, b, fs g)) := by
  have : fs (g + 31) = fs g := Fin.ext (Nat.add_mod_right g 31)
  rw [this]
/-- in the next round. -/
theorem round_next (g : ℕ) : (g + 31) / 31 = g / 31 + 1 := Nat.add_div_right g (by decide)

/-- A cell of arrivals or departures at the round of step `g`, where its owner waits. -/
def pos (rv b : Bool) (c : Dev nD) (g : ℕ) : sProp 𝕄 :=
  iprop(atPos ER (kcell (c, some (rv, b, fs g))) (g / 31) ∅ 0 ∗ reached ER (kcell (c, some (rv, b, fs g))) (g / 31))

/-- A wait on a cell of the ring for its round's block: what the raise hands over comes with it, and the cell moves on. -/
theorem wp_take (rv b : Bool) (c : Dev nD) {g : ℕ} (hg : g < 62) {n n' : ℕ}
    (hl : lv (kcell (c, some (rv, b, fs g))) (g / 31) < 2 + min n n')
    {P : sProp 𝕄} (hP : bigSep ((ringRd (F := F) m ρ).duties (kcell (c, some (rv, b, fs g))) (g / 31) \ ∅)
      (fun d => (ringRd (F := F) m ρ).payload (kcell (c, some (rv, b, fs g))) (g / 31) d) = P)
    {a : DmaSems sig S31} (ha : a = semsOf rv b) {s : Fin 31} (hs : s = fs g)
    {src dst : Memref sig .tc .vmem S24x1536 .f32} (hN : dst.view.dmaCredit = N)
    {hsrc : src.view.WordExact} {hdst : dst.view.WordExact}
    {k : Body F} {Q : PUnit → sProp 𝕄} :
    iprop(world m ρ K ∗ cred (tallyAt (kcell (c, some (rv, b, fs g))) (g / 31) N) ∗ owing c n n' ∗ pos rv b c g)
      ⊢ iprop(((owing c n n' ∗ pos rv b c (g + 31) ∗ P) -∗ WP c k Q)
          -∗ WP c (.op (.waitDma2 (semAt a s) src dst hsrc hdst) fun _ => k) Q) := by
  subst ha hs
  have hmay : world m ρ K ⊢ (MayWait (c : Thread nD τ) (csem (some (rv, b, fs g))) (g / 31) (Ow c n n') : sProp 𝕄) :=
    may_at m ρ K c (some (rv, b, fs g)) (g / 31) n n' (by omega) hl
  unfold owing pos
  rw [cell_next, round_next]
  iintro ⟨#HW, Hc, ⟨%W, HO⟩, ⟨Hat, -⟩⟩ Hk
  iapply (Rounds.wp_wait_rest_token 𝒱₀ ER (ringRd m ρ) (c : Thread nD τ) none (κ := K (c, some (rv, b, fs g)))
      (wpE_waitDma2_eq 𝒱₀ (c : Thread nD τ) none Set.univ) (Set.mem_univ _) (g / 31) (O := Ow c n n') (W := W) (R := g / 31) (m := 0) (T := ∅)
      (by rw [Nat.zero_add, hN]; exact (expect_cell m ρ c b rv (fs g) (by omega)).symm)) $$ [Hc HO Hat]
  · isplitr; · iapply (inv_at m ρ K (c, some (rv, b, fs g))); iexact HW
    isplitl [Hc]
    · iapply (Entails.of_eq (congrArg (fun n => (cred (tallyAt (kcell (c, some (rv, b, fs g))) (g / 31) n) : sProp 𝕄)) hN.symm))
      iexact Hc
    isplitl [HO]; · iexact HO
    isplitr
    · iapply hmay; iexact HW
    iexact Hat
  iintro ⟨HO, Hat, Hr, Hpay⟩
  iapply Hk
  isplitl [HO]; · iexists _; iexact HO
  isplitl [Hat Hr]
  · isplitl [Hat]; · iexact Hat
    iexact Hr
  rw [← hP]; iexact Hpay

/-! ## Accumulating -/

/-- Reading a view is reading it reshaped, at the matching index. -/
theorem read_back {κ : Kind} {sp : Space} {t t' : Shape} {e : EltTy} (v : View sig κ sp t e) (h : t'.numel = t.numel)
    (f : v.ty.Contents (Elt F)) (j : t.Idx) :
    v.read (Elt F) f j = (v.reshape t' h).read (Elt F) f ((Shape.reshapeEquiv h).symm j) := by
  have : (v.reshape t' h).emb ((Shape.reshapeEquiv h).symm j) = v.emb j := by
    rw [View.emb_reshape]
    show v.emb (Shape.reshapeEquiv h ((Shape.reshapeEquiv h).symm j)) = v.emb j
    rw [Equiv.apply_symm_apply]
  rw [View.read_apply, View.read_apply]
  show cast _ (f (v.emb j)) = cast _ (f ((v.reshape t' h).emb ((Shape.reshapeEquiv h).symm j)))
  rw [this]

/-- A reshaped part takes the same elements. -/
theorem set_back {κ : Kind} {sp : Space} {t t' : Shape} {e : EltTy} (v : View sig κ sp t e) (r : Rect t) (h : t'.numel = r.shape.numel) :
    v.setOn r.toLoadRect.set = ((v.slice r).reshape t' h).set := by
  rw [View.set_reshape, View.set_slice]; rfl

/-- Reading a slot where it lies is reading its block. -/
theorem slot_read (b : Bool) (s : Fin 31) (f : (slotM (X.cm b) s).view.ty.Contents (Elt F)) :
    (X.cm b).view.readAt (Elt F) (slotRect s).toLoadRect f = inSlot ((slotM (X.cm b) s).view.read (Elt F) f) := by
  funext j
  exact read_back ((X.cm b).view.slice (slotRect s)) squeezes_S1x24x1536_S24x1536.numel_eq f j

/-- A landing slot added to a block. -/
theorem wp_add (b : Bool) (c : Dev nD) {g j : ℕ} {s : Fin 31} (hs : s = fs g) {off : Fin 2 → ℕ} {h : OffIn off}
    (hoff : off = pOff b c j) (v w : Rows F) {k : Body F} {Q : PUnit → sProp 𝕄} :
    iprop(piece b c j v ∗ slotAt b c g w)
      ⊢ iprop(((piece b c j (plus v w) ∗ slotAt b c g w) -∗ WP c k Q) -∗ WP c (rsAdd X b s off h k) Q) := by
  subst hs hoff
  unfold piece slotAt
  iintro ⟨Hp, Hs⟩ Hk
  icases (show owns (c : Thread nD τ) (rowM X.o (pOff b c j) (pOff_in b c j)) fullShare v
    ⊢ iprop(∃ f, ⌜(rowM X.o (pOff b c j) (pOff_in b c j)).view.read (Elt F) f = v⌝
        ∗ ((X.o.access (rowRect (pOff b c j) h)).loc (c : Thread nD τ) ↦[(X.o.access (rowRect (pOff b c j) h)).set]{fullShare} f))
    from .rfl) $$ Hp with ⟨%f, %hf, Hp⟩
  icases (show owns (c : Thread nD τ) (slotM (X.cm b) (fs g)) fullShare w
    ⊢ iprop(∃ f, ⌜(slotM (X.cm b) (fs g)).view.read (Elt F) f = w⌝
        ∗ ((X.cm b).view.loc (c : Thread nD τ) ↦[(slotM (X.cm b) (fs g)).view.set]{fullShare} f))
    from .rfl) $$ Hs with ⟨%f', %hf', Hs⟩
  have hb : ((X.cm b).view.loc (c : Thread nD τ) ↦[(slotM (X.cm b) (fs g)).view.set]{fullShare} f' : sProp 𝕄)
      ⊢ owns (c : Thread nD τ) (slotM (X.cm b) (fs g)) fullShare w := owns_of (c : Thread nD τ) _ f' w hf'
  have ha : ((X.o.access (rowRect (pOff b c j) h)).loc (c : Thread nD τ) ↦[(X.o.access (rowRect (pOff b c j) h)).set]{fullShare}
      ((X.o.access (rowRect (pOff b c j) h)).write (Elt F) f (plus v w) Finset.univ) : sProp 𝕄)
      ⊢ owns (c : Thread nD τ) (rowM X.o (pOff b c j) h) fullShare (plus v w) :=
    owns_of (c : Thread nD τ) (rowM X.o (pOff b c j) h) _ (plus v w)
      (View.read_write_univ (v := X.o.access (rowRect (pOff b c j) h)) (Val := Elt F) _ _)
  have e1 : (X.o.access (rowRect (pOff b c j) h)).read (Elt F) f = v := hf
  have e2 : (X.cm b).view.readAt (Elt F) (slotRect (fs g)).toLoadRect f' = inSlot w := by rw [slot_read, hf']
  unfold rsAdd
  iapply (wp_load_rect 𝒱₀ (c : Thread nD τ) none Set.univ (m := X.o) (r := rowRect (pOff b c j) h) (Finset.Subset.refl _)) $$ Hp
  iintro Hp
  rw [e1]
  iapply (wp_load 𝒱₀ (c : Thread nD τ) none Set.univ (m := X.cm b) (r := (slotRect (fs g)).toLoadRect)
    (S := (slotM (X.cm b) (fs g)).view.set) (subset_of_eq
      (set_back (X.cm b).view (slotRect (fs g)) squeezes_S1x24x1536_S24x1536.numel_eq))) $$ Hs
  iintro Hs
  rw [e2]
  iapply (wp_load_rect 𝒱₀ (c : Thread nD τ) none Set.univ (m := X.o) (r := rowRect (pOff b c j) h) (Finset.Subset.refl _)) $$ Hp
  iintro Hp
  iapply (wp_store 𝒱₀ (c : Thread nD τ) none Set.univ (m := X.o) (r := rowRect (pOff b c j) h) (Mk := Finset.univ)
    (S := (X.o.access (rowRect (pOff b c j) h)).set) (Finset.Subset.refl _)) $$ Hp
  iintro Hp
  iapply Hk
  isplitl [Hp]
  · iapply ha; iexact Hp
  · iapply hb; iexact Hs

end Cert.RingProof

end
-- ==== Proof.Ring.lean ====
/-
What a device holds of one direction of the ring in the middle of its run, and what each operation does to it.
-/
module

public import proofs.«01_k».proof.Proof.Steps
public import Idealize.SL.BI.BigOpNat

@[expose] public section

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ) (ρ : Dev nD → PrngReg)
variable (K : Dev nD × CK → ℕ)

/-! ## Runs of steps -/

/-- The steps `a ≤ j < b` of a family. -/
abbrev seg (A : ℕ → sProp 𝕄) (a b : ℕ) : sProp 𝕄 := bigSep (Finset.Ico a b) A

/-- A run with its first step set apart, -/
theorem seg_first (A : ℕ → sProp 𝕄) {a b : ℕ} (h : a < b) : seg A a b = iprop(A a ∗ seg A (a + 1) b) := bigSep_Ico_succ_bot h A
/-- and with its last. -/
theorem seg_last (A : ℕ → sProp 𝕄) {a b : ℕ} (h : a ≤ b) : seg A a (b + 1) = iprop(A b ∗ seg A a b) := bigSep_Ico_succ_top h A

/-- A run of no steps. -/
theorem seg_none (A : ℕ → sProp 𝕄) {a b : ℕ} (h : b ≤ a) : seg A a b = iprop(emp) := by
  unfold seg; rw [Finset.Ico_eq_empty_of_le h, bigSep_empty]; rfl

/-- What lasts is had besides what gives it. -/
theorem keep {P Q : sProp 𝕄} [BI.Persistent Q] (h : P ⊢ Q) : P ⊢ iprop(Q ∗ P) :=
  (and_intro h .rfl).trans persistent_and_sep.1

/-- The tokens of the raises that step `j` makes, -/
def tokF (b : Bool) (c : Dev nD) (j : ℕ) : sProp 𝕄 :=
  iprop(dutyTok ER (sCell b c j) (j / 31) false ∗ dutyTok ER (rCell b (dn b c) j) (j / 31) false)
/-- the credit of its departure, -/
def flyF (b : Bool) (c : Dev nD) (j : ℕ) : sProp 𝕄 := cred (tallyAt (sCell b c j) (j / 31) N)
/-- the credit of its arrival, -/
def comeF (b : Bool) (c : Dev nD) (j : ℕ) : sProp 𝕄 := cred (tallyAt (rCell b c j) (j / 31) N)
/-- its block, with what it sends, -/
def curF (b : Bool) (c : Dev nD) (j : ℕ) : sProp 𝕄 := piece b c j (Cv m ρ b j c)
/-- its block as the own product has it, -/
def freshF (b : Bool) (c : Dev nD) (j : ℕ) : sProp 𝕄 := piece b c j (zp m ρ b c j)
/-- its block with whatever is left in it, -/
def junkF (b : Bool) (c : Dev nD) (j : ℕ) : sProp 𝕄 := iprop(∃ v, piece b c j v)
/-- and its landing slot, used. -/
def slotF (b : Bool) (c : Dev nD) (j : ℕ) : sProp 𝕄 := iprop(∃ v, slotAt b c j v)

/-- Device `c` in direction `b` after `st` sends, `rc` arrivals and `dd` departures, with `st'` sends and `rc'` arrivals of
    the other direction. -/
def Dir (b : Bool) (c : Dev nD) (st rc dd st' rc' : ℕ) : sProp 𝕄 :=
  iprop(seg (tokF b c) st 62 ∗ seg (Lnd b c) st (min 62 (max 31 (rc' + 1)))
    ∗ seg (junkF b c) (st' - 30) (min 31 dd) ∗ seg (curF m ρ b c) 31 dd
    ∗ seg (flyF b c) dd st ∗ seg (curF m ρ b c) st (rc + 1) ∗ seg (freshF m ρ b c) (rc + 1) 32
    ∗ seg (slotF b c) 0 (min rc 31) ∗ seg (comeF b c) rc 62
    ∗ seg (pos true b c) rc (rc + 31) ∗ seg (pos false b c) dd (dd + 31))

/-- What a device owes, seen from a direction. -/
def owingB (b : Bool) (c : Dev nD) (n n' : ℕ) : sProp 𝕄 :=
  match b with
  | true => owing c n n'
  | false => owing c n' n

/-- A device in the middle of its run, seen from a direction: sends, arrivals and departures of it, and of the other. -/
def Mid (b : Bool) (c : Dev nD) (st rc dd st' rc' dd' : ℕ) : sProp 𝕄 :=
  iprop(Dir m ρ b c st rc dd st' rc' ∗ Dir m ρ (!b) c st' rc' dd' st rc ∗ owingB b c st st')

/-- The two directions seen from either. -/
theorem mid_swap (b : Bool) (c : Dev nD) (st rc dd st' rc' dd' : ℕ) :
    Mid (F := F) m ρ b c st rc dd st' rc' dd' ⊢ Mid m ρ (!b) c st' rc' dd' st rc dd := by
  unfold Mid
  iintro ⟨H1, H2, H3⟩
  isplitl [H2]; · iexact H2
  isplitl [H1]; · rw [Bool.not_not]; iexact H1
  cases b
  · iexact H3
  · iexact H3

/-- A cell's round is reached where its owner waits. -/
theorem pos_reached (rv b : Bool) (c : Dev nD) {a e j : ℕ} (h1 : a ≤ j) (h2 : j < e) :
    (seg (pos rv b c) a e : sProp 𝕄) ⊢ reached ER (kcell (c, some (rv, b, fs j))) (j / 31) := by
  have h : (seg (pos rv b c) a e : sProp 𝕄) ⊢ pos rv b c j := bigSep_elim (Finset.mem_Ico.mpr ⟨h1, h2⟩)
  refine h.trans ?_
  unfold pos
  iintro ⟨-, H⟩
  iexact H

/-! ## Sending -/

/-- What step `g` hands over besides its block, out of what the device has left of the other direction. -/
theorem hand_intro (b : Bool) (c : Dev nD) {g : ℕ} (h : 30 ≤ g ∧ g ≤ 60) :
    iprop(junkF (F := F) (!b) c (g - 30) ∗ reached ER (rCell (!b) c (g + 1)) ((g + 1) / 31)) ⊢ hand b (dn b c) g := by
  unfold hand junkF Lnd
  rw [if_pos h, if_neg (by omega)]
  have e : dn (!b) (dn b c) = c := up_dn b c
  rw [e]
  iintro ⟨⟨%v, H⟩, Hr⟩
  isplitl [H]
  · iexists v
    rw [show g + 1 + 1 = (g - 30) + 32 by omega, piece_period]
    iexact H
  · iexact Hr

/-- What a direction gives for a send, and its state after the send. -/
theorem dir_start (b : Bool) (c : Dev nD) {g rc dd st' rc' : ℕ} (hg : g < 62) (hrc : g ≤ rc) (hdd : dd ≤ g) (hdd2 : g < dd + 31)
    (hl : 31 ≤ g → g ≤ rc') :
    Dir (F := F) m ρ b c g rc dd st' rc'
      ⊢ iprop(tokF b c g ∗ Lnd b c g ∗ reached ER (sCell b c g) (g / 31) ∗ curF m ρ b c g
          ∗ (flyF b c g -∗ Dir m ρ b c (g + 1) rc dd st' rc')) := by
  unfold Dir
  rw [seg_first (tokF b c) hg, seg_first (Lnd b c) (show g < min 62 (max 31 (rc' + 1)) by omega),
    seg_last (flyF b c) hdd, seg_first (curF m ρ b c) (show g < rc + 1 by omega)]
  iintro ⟨⟨Ht, Htok⟩, ⟨Hl, Hlnd⟩, Hjunk, Hfin, Hfly, ⟨Hc, Hcur⟩, Hfresh, Hslot, Hcome, Hrp, Hsp⟩
  icases (keep (pos_reached false b c (a := dd) (e := dd + 31) (j := g) hdd hdd2)) $$ Hsp with ⟨Hr1, Hsp⟩
  isplitl [Ht]; · iexact Ht
  isplitl [Hl]; · iexact Hl
  isplitl [Hr1]; · iexact Hr1
  isplitl [Hc]; · iexact Hc
  iintro Hf
  isplitl [Htok]; · iexact Htok
  isplitl [Hlnd]; · iexact Hlnd
  isplitl [Hjunk]; · iexact Hjunk
  isplitl [Hfin]; · iexact Hfin
  isplitl [Hfly Hf]
  · isplitl [Hf]; · iexact Hf
    iexact Hfly
  isplitl [Hcur]; · iexact Hcur
  isplitl [Hfresh]; · iexact Hfresh
  isplitl [Hslot]; · iexact Hslot
  isplitl [Hcome]; · iexact Hcome
  isplitl [Hrp]; · iexact Hrp
  iexact Hsp

/-- What the other direction gives for a send. -/
theorem dir_lend (b : Bool) (c : Dev nD) {g rc st' rc' dd' : ℕ} (hg : g < 62) (hrc' : g ≤ rc' + 29 ∧ rc' ≤ g + 1)
    (hdd' : 30 ≤ g → g - 30 < dd') :
    Dir (F := F) m ρ (!b) c st' rc' dd' g rc ⊢ iprop(hand b (dn b c) g ∗ Dir m ρ (!b) c st' rc' dd' (g + 1) rc) := by
  unfold Dir
  by_cases h : 30 ≤ g ∧ g ≤ 60
  · have hd1 := hdd' h.1
    rw [seg_first (junkF (!b) c) (show g - 30 < min 31 dd' by omega), show g - 30 + 1 = g + 1 - 30 by omega]
    iintro ⟨Htok, Hlnd, ⟨Hj, Hjunk⟩, Hfin, Hfly, Hcur, Hfresh, Hslot, Hcome, Hrp, Hsp⟩
    icases (keep (pos_reached true (!b) c (a := rc') (e := rc' + 31) (j := g + 1) (by omega) (by omega))) $$ Hrp with ⟨Hr, Hrp⟩
    isplitl [Hj Hr]
    · iapply (hand_intro b c h)
      isplitl [Hj]; · iexact Hj
      iexact Hr
    isplitl [Htok]; · iexact Htok
    isplitl [Hlnd]; · iexact Hlnd
    isplitl [Hjunk]; · iexact Hjunk
    isplitl [Hfin]; · iexact Hfin
    isplitl [Hfly]; · iexact Hfly
    isplitl [Hcur]; · iexact Hcur
    isplitl [Hfresh]; · iexact Hfresh
    isplitl [Hslot]; · iexact Hslot
    isplitl [Hcome]; · iexact Hcome
    isplitl [Hrp]; · iexact Hrp
    iexact Hsp
  · have e : seg (junkF (F := F) (!b) c) (g - 30) (min 31 dd') = seg (junkF (!b) c) (g + 1 - 30) (min 31 dd') := by
      rcases (show g < 30 ∨ g = 61 by omega) with h' | h'
      · rw [show g - 30 = g + 1 - 30 by omega]
      · rw [seg_none (junkF (!b) c) (show min 31 dd' ≤ g - 30 by omega),
          seg_none (junkF (!b) c) (show min 31 dd' ≤ g + 1 - 30 by omega)]
    rw [e]
    unfold hand
    rw [if_neg h]
    iintro H
    isplitr; · iempintro
    iexact H

/-- A send: the step's block leaves for its destination `D` on the next device. -/
theorem mid_start (b : Bool) (c : Dev nD) {g rc dd rc' dd' : ℕ} (hg : g < 62) (hrc : g ≤ rc) (hdd : dd ≤ g) (hdd2 : g < dd + 31)
    (hl : 31 ≤ g → g ≤ rc') (hrc' : g ≤ rc' + 29 ∧ rc' ≤ g + 1) (hdd' : 30 ≤ g → g - 30 < dd')
    {st' : ℕ}
    {D : Memref sig .tc .vmem S24x1536 .f32} (hN : D.view.dmaCredit = N)
    (hland : (Lnd b c g : sProp 𝕄) ⊢ iprop((∃ v, owns (dn b c : Thread nD τ) D fullShare v) ∗ reached ER (rCell b (dn b c) g) (g / 31)))
    (hgot : owns (dn b c : Thread nD τ) D fullShare (Cv m ρ b g c) ⊢ got m ρ b (dn b c) g)
    {d : Dev nD} (hd : d = dn b c) {s : Fin 31} (hs : s = fs g) {off : Fin 2 → ℕ} {h : OffIn off} (hoff : off = pOff b c g)
    {hsc : (D : Memref sig (Dev.tc d : Thread nD τ).2.kind .vmem S24x1536 .f32).view.ref.isScScratch = false}
    {hsrc : (rowM X.o off h).view.WordExact} {hdst : D.view.WordExact}
    {hsem : DmaTarget.Typed .vmem (.dma (semAt (X.rs b) s)) (.remote (Dev.tc d : Thread nD τ) D (.dma (semAt (X.ss b) s)) hsc)}
    {k : Body F} {Q : PUnit → sProp 𝕄} :
    iprop(world m ρ K ∗ Mid m ρ b c g rc dd st' rc' dd')
      ⊢ iprop((Mid m ρ b c (g + 1) rc dd st' rc' dd' -∗ WP c k Q)
          -∗ WP c (.op (.enqueueDma (rowM X.o off h) (.remote (Dev.tc d : Thread nD τ) D (.dma (semAt (X.ss b) s)) hsc)
              (.dma (semAt (X.rs b) s)) hsrc hdst hsem) fun _ => k) Q) := by
  have hpay : iprop(owns (dn b c : Thread nD τ) D fullShare (Cv m ρ b g c) ∗ hand b (dn b c) g) ⊢ recvPay m ρ b (dn b c) g := by
    unfold recvPay
    iintro ⟨H1, H2⟩
    isplitl [H1]; · iapply hgot; iexact H1
    iexact H2
  obtain ⟨n, n', p, p', hO, hO1, hO2⟩ : ∃ n n' p p', Ow c n n' = Ow c p p' + tallyAt (rCell b (dn b c) g) (g / 31) N
      ∧ (owingB b c g st' : sProp 𝕄) = owing c n n' ∧ (owingB b c (g + 1) st' : sProp 𝕄) = owing c p p' := by
    cases b
    · exact ⟨st', g, st', g + 1, Ow_false c st' hg, rfl, rfl⟩
    · exact ⟨g, st', g + 1, st', Ow_true c st' hg, rfl, rfl⟩
  unfold Mid
  rw [hO1, hO2]
  iintro ⟨#HW, HD1, HD2, HO⟩ Hk
  icases (dir_start m ρ b c hg hrc hdd hdd2 hl) $$ HD1 with ⟨Ht, Hl, Hr1, Hc, Hback⟩
  icases (dir_lend m ρ b c hg hrc' hdd') $$ HD2 with ⟨Hh, HD2⟩
  icases hland $$ Hl with ⟨HD, Hr2⟩
  unfold tokF
  icases Ht with ⟨Ht1, Ht2⟩
  iapply (wp_start m ρ K b c hg hN hpay hO hd hs hoff) $$ [Hc HD Hh HO Ht1 Hr1 Ht2 Hr2]
  · isplitr; · iexact HW
    isplitl [Hc]; · unfold curF; iexact Hc
    isplitl [HD]; · iexact HD
    isplitl [Hh]; · iexact Hh
    isplitl [HO]; · iexact HO
    isplitl [Ht1]; · iexact Ht1
    isplitl [Hr1]; · iexact Hr1
    isplitl [Ht2]; · iexact Ht2
    iexact Hr2
  iintro ⟨Hcr, HO⟩
  iapply Hk
  isplitl [Hcr Hback]
  · iapply Hback; unfold flyF; iexact Hcr
  isplitl [HD2]; · iexact HD2
  iexact HO

/-- A send of the reduce-scatter, -/
theorem mid_rsStart (b : Bool) (c : Dev nD) {g rc dd st' rc' dd' : ℕ} (hg : g < 31) (hrc : g ≤ rc) (hdd : dd ≤ g) (hdd2 : g < dd + 31)
    (hrc' : g ≤ rc' + 29 ∧ rc' ≤ g + 1) (hdd' : 30 ≤ g → g - 30 < dd')
    {d : Dev nD} (hd : d = dn b c) {s : Fin 31} (hs : s = fs g) {off : Fin 2 → ℕ} {h : OffIn off} (hoff : off = pOff b c g)
    {k : Body F} {Q : PUnit → sProp 𝕄} :
    iprop(world m ρ K ∗ Mid m ρ b c g rc dd st' rc' dd')
      ⊢ iprop((Mid m ρ b c (g + 1) rc dd st' rc' dd' -∗ WP c k Q) -∗ WP c (rsStart X b d s off h k) Q) := by
  unfold rsStart
  refine mid_start m ρ K b c (D := slotM (X.cm b) s) (show g < 62 by omega) hrc hdd hdd2 (by omega) hrc' hdd' (credit_slot b s) ?_ ?_ hd hs hoff
  · unfold Lnd; rw [if_pos hg]; subst hs
    iintro ⟨H, Hr⟩
    isplitl [H]; · unfold slotAt; iexact H
    iexact Hr
  · unfold got; rw [if_pos hg]; subst hs
    have e : up b (dn b c) = c := up_dn b c
    rw [e]; exact .rfl
/-- and one of the all-gather. -/
theorem mid_gStart (b : Bool) (c : Dev nD) {g rc dd st' rc' dd' : ℕ} (hg0 : 31 ≤ g) (hg : g < 62) (hrc : g ≤ rc) (hdd : dd ≤ g) (hdd2 : g < dd + 31)
    (hl : g ≤ rc') (hrc' : rc' ≤ g + 1) (hdd' : g - 30 < dd')
    {d : Dev nD} (hd : d = dn b c) {s : Fin 31} (hs : s = fs g) {off : Fin 2 → ℕ} {h : OffIn off} (hoff : off = pOff b c g)
    {k : Body F} {Q : PUnit → sProp 𝕄} :
    iprop(world m ρ K ∗ Mid m ρ b c g rc dd st' rc' dd')
      ⊢ iprop((Mid m ρ b c (g + 1) rc dd st' rc' dd' -∗ WP c k Q) -∗ WP c (gStart X b d s off h k) Q) := by
  unfold gStart
  have e : up b (dn b c) = c := up_dn b c
  have er : rowM X.o off h = rowM X.o (pOff b (dn b c) (g + 1)) (pOff_in b (dn b c) (g + 1)) :=
    rowM_congr (hoff.trans (pOff_dn b c g).symm) _ _
  refine mid_start m ρ K b c (D := rowM X.o off h) hg hrc hdd hdd2 (fun _ => hl) (by omega) (fun _ => hdd') (credit_row _ _) ?_ ?_ hd hs hoff
  · unfold Lnd; rw [if_neg (by omega), er]
    iintro ⟨H, Hr⟩
    isplitl [H]; · unfold piece; iexact H
    iexact Hr
  · unfold got; rw [if_neg (by omega), Cv_gat _ _ _ _ (by omega), e, er]
    exact .rfl

/-! ## Arriving -/

/-- What a direction gives for an arrival of the reduce-scatter, and its state after it and the block's accumulation. -/
theorem dir_rsCome (b : Bool) (c : Dev nD) {g st dd st' rc' : ℕ} (hg : g < 31) (hst : st ≤ g + 1) :
    Dir (F := F) m ρ b c st g dd st' rc'
      ⊢ iprop(comeF b c g ∗ pos true b c g ∗ freshF m ρ b c (g + 1)
          ∗ (iprop(pos true b c (g + 31) ∗ slotF b c g ∗ curF m ρ b c (g + 1)) -∗ Dir m ρ b c st (g + 1) dd st' rc')) := by
  unfold Dir
  rw [seg_first (comeF b c) (show g < 62 by omega), seg_first (pos true b c) (show g < g + 31 by omega),
    seg_first (freshF m ρ b c) (show g + 1 < 32 by omega), show g + 1 + 31 = g + 31 + 1 by omega,
    seg_last (pos true b c) (show g + 1 ≤ g + 31 by omega), seg_last (curF m ρ b c) hst,
    show min g 31 = g by omega, show min (g + 1) 31 = g + 1 by omega, seg_last (slotF b c) (Nat.zero_le g)]
  iintro ⟨Htok, Hlnd, Hjunk, Hfin, Hfly, Hcur, ⟨Hf, Hfresh⟩, Hslot, ⟨Hc, Hcome⟩, ⟨Hp, Hrp⟩, Hsp⟩
  isplitl [Hc]; · iexact Hc
  isplitl [Hp]; · iexact Hp
  isplitl [Hf]; · iexact Hf
  iintro ⟨Hp, Hs, Hn⟩
  isplitl [Htok]; · iexact Htok
  isplitl [Hlnd]; · iexact Hlnd
  isplitl [Hjunk]; · iexact Hjunk
  isplitl [Hfin]; · iexact Hfin
  isplitl [Hfly]; · iexact Hfly
  isplitl [Hn Hcur]
  · isplitl [Hn]; · iexact Hn
    iexact Hcur
  isplitl [Hfresh]; · iexact Hfresh
  isplitl [Hs Hslot]
  · isplitl [Hs]; · iexact Hs
    iexact Hslot
  isplitl [Hcome]; · iexact Hcome
  isplitl [Hp Hrp]
  · isplitl [Hp]; · iexact Hp
    iexact Hrp
  iexact Hsp

/-- What a direction gives for an arrival of the all-gather, and its state after it. -/
theorem dir_gCome (b : Bool) (c : Dev nD) {g st dd st' rc' : ℕ} (hg0 : 31 ≤ g) (hg : g < 62) (hst : st ≤ g + 1) :
    Dir (F := F) m ρ b c st g dd st' rc'
      ⊢ iprop(comeF b c g ∗ pos true b c g
          ∗ (iprop(pos true b c (g + 31) ∗ curF m ρ b c (g + 1)) -∗ Dir m ρ b c st (g + 1) dd st' rc')) := by
  unfold Dir
  rw [seg_first (comeF b c) (show g < 62 by omega), seg_first (pos true b c) (show g < g + 31 by omega),
    seg_none (freshF m ρ b c) (show 32 ≤ g + 1 by omega), seg_none (freshF m ρ b c) (show 32 ≤ g + 1 + 1 by omega),
    show g + 1 + 31 = g + 31 + 1 by omega,
    seg_last (pos true b c) (show g + 1 ≤ g + 31 by omega), seg_last (curF m ρ b c) hst,
    show min g 31 = 31 by omega, show min (g + 1) 31 = 31 by omega]
  iintro ⟨Htok, Hlnd, Hjunk, Hfin, Hfly, Hcur, Hfresh, Hslot, ⟨Hc, Hcome⟩, ⟨Hp, Hrp⟩, Hsp⟩
  isplitl [Hc]; · iexact Hc
  isplitl [Hp]; · iexact Hp
  iintro ⟨Hp, Hn⟩
  isplitl [Htok]; · iexact Htok
  isplitl [Hlnd]; · iexact Hlnd
  isplitl [Hjunk]; · iexact Hjunk
  isplitl [Hfin]; · iexact Hfin
  isplitl [Hfly]; · iexact Hfly
  isplitl [Hn Hcur]
  · isplitl [Hn]; · iexact Hn
    iexact Hcur
  isplitl [Hfresh]; · iexact Hfresh
  isplitl [Hslot]; · iexact Hslot
  isplitl [Hcome]; · iexact Hcome
  isplitl [Hp Hrp]
  · isplitl [Hp]; · iexact Hp
    iexact Hrp
  iexact Hsp

/-- What the other direction has of an arrival. -/
theorem dir_gain (b : Bool) (c : Dev nD) {g st st' rc' dd' : ℕ} (hg : g < 62) (hst : 30 ≤ g → st' ≤ g + 1) :
    iprop(hand b c g ∗ Dir (F := F) m ρ (!b) c st' rc' dd' st g) ⊢ Dir m ρ (!b) c st' rc' dd' st (g + 1) := by
  unfold hand Dir
  by_cases h : 30 ≤ g ∧ g ≤ 60
  · have h' := hst h.1
    rw [if_pos h, show min 62 (max 31 (g + 1)) = g + 1 by omega, show min 62 (max 31 (g + 1 + 1)) = g + 1 + 1 by omega,
      seg_last (Lnd (!b) c) h']
    iintro ⟨Hh, ⟨Htok, Hlnd, Hjunk, Hfin, Hfly, Hcur, Hfresh, Hslot, Hcome, Hrp, Hsp⟩⟩
    isplitl [Htok]; · iexact Htok
    isplitl [Hh Hlnd]
    · isplitl [Hh]; · iexact Hh
      iexact Hlnd
    isplitl [Hjunk]; · iexact Hjunk
    isplitl [Hfin]; · iexact Hfin
    isplitl [Hfly]; · iexact Hfly
    isplitl [Hcur]; · iexact Hcur
    isplitl [Hfresh]; · iexact Hfresh
    isplitl [Hslot]; · iexact Hslot
    isplitl [Hcome]; · iexact Hcome
    isplitl [Hrp]; · iexact Hrp
    iexact Hsp

  · rw [if_neg h, show min 62 (max 31 (g + 1)) = min 62 (max 31 (g + 1 + 1)) by omega]
    iintro ⟨-, H⟩
    iexact H

/-- An arrival of the reduce-scatter and its accumulation. -/
theorem mid_rsRecv (b : Bool) (c : Dev nD) {g st dd st' rc' dd' : ℕ} (hg : g < 31) (hst : st = g + 1) (hst' : st' = g + 1)
    {s : Fin 31} (hs : s = fs g) {off off' : Fin 2 → ℕ} {h : OffIn off} {h' : OffIn off'} (hoff : off' = pOff b c (g + 1))
    {k : Body F} {Q : PUnit → sProp 𝕄} :
    iprop(world m ρ K ∗ Mid m ρ b c st g dd st' rc' dd')
      ⊢ iprop((Mid m ρ b c st (g + 1) dd st' rc' dd' -∗ WP c k Q) -∗ WP c (rsRecv X b s off h (rsAdd X b s off' h' k)) Q) := by
  obtain ⟨n, n', hn, hn', hO⟩ : ∃ n n', n = g + 1 ∧ n' = g + 1 ∧ (owingB b c st st' : sProp 𝕄) = owing c n n' := by
    cases b
    · exact ⟨st', st, hst', hst, rfl⟩
    · exact ⟨st, st', hst, hst', rfl⟩
  unfold Mid
  rw [hO]
  iintro ⟨#HW, HD1, HD2, HO⟩ Hk
  icases (dir_rsCome m ρ b c hg hst.le) $$ HD1 with ⟨Hc, Hp, Hf, Hback⟩
  unfold rsRecv comeF
  iapply (wp_take m ρ K true b c (show g < 62 by omega) (n := n) (n' := n') (by rw [lv_recv]; omega) (rest_recv m ρ c b (show g < 62 by omega)) rfl hs
    (credit_slot b s)) $$ [Hc Hp HO]
  · isplitr; · iexact HW
    isplitl [Hc]; · iexact Hc
    isplitl [HO]; · iexact HO
    iexact Hp
  unfold recvPay got freshF
  rw [if_pos hg]
  iintro ⟨HO, Hp, Hs, Hh⟩
  iapply (wp_add b c hs hoff (zp m ρ b c (g + 1)) (Cv m ρ b g (up b c))) $$ [Hf Hs]
  · isplitl [Hf]; · iexact Hf
    iexact Hs
  iintro ⟨Hf, Hs⟩
  iapply Hk
  isplitl [Hback Hp Hf Hs]
  · iapply Hback
    isplitl [Hp]; · iexact Hp
    isplitl [Hs]; · unfold slotF; iexists _; iexact Hs
    unfold curF; rw [Cv_acc _ _ _ _ hg]; iexact Hf
  isplitl [HD2 Hh]
  · iapply (dir_gain m ρ b c (show g < 62 by omega) (by omega))
    isplitl [Hh]; · iexact Hh
    iexact HD2
  iexact HO

/-- An arrival of the all-gather. -/
theorem mid_gRecv (b : Bool) (c : Dev nD) {g st dd st' rc' dd' : ℕ} (hg0 : 31 ≤ g) (hg : g < 62) (hst : st = g + 1) (hst' : st' = g + 1)
    {s : Fin 31} (hs : s = fs g) {off : Fin 2 → ℕ} {h : OffIn off} {a : DmaSems sig S31} (ha : a = semsOf true b)
    {k : Body F} {Q : PUnit → sProp 𝕄} :
    iprop(world m ρ K ∗ Mid m ρ b c st g dd st' rc' dd')
      ⊢ iprop((Mid m ρ b c st (g + 1) dd st' rc' dd' -∗ WP c k Q) -∗ WP c (gWait X s off h k a) Q) := by
  obtain ⟨n, n', hn, hn', hO⟩ : ∃ n n', n = g + 1 ∧ n' = g + 1 ∧ (owingB b c st st' : sProp 𝕄) = owing c n n' := by
    cases b
    · exact ⟨st', st, hst', hst, rfl⟩
    · exact ⟨st, st', hst, hst', rfl⟩
  unfold Mid
  rw [hO]
  iintro ⟨#HW, HD1, HD2, HO⟩ Hk
  icases (dir_gCome m ρ b c hg0 hg hst.le) $$ HD1 with ⟨Hc, Hp, Hback⟩
  unfold gWait comeF
  iapply (wp_take m ρ K true b c hg (n := n) (n' := n') (by rw [lv_recv]; omega) (rest_recv m ρ c b hg) ha hs (credit_row _ _)) $$ [Hc Hp HO]
  · isplitr; · iexact HW
    isplitl [Hc]; · iexact Hc
    isplitl [HO]; · iexact HO
    iexact Hp
  unfold recvPay got
  rw [if_neg (show ¬ g < 31 by omega)]
  iintro ⟨HO, Hp, Hs, Hh⟩
  iapply Hk
  isplitl [Hback Hp Hs]
  · iapply Hback
    isplitl [Hp]; · iexact Hp
    unfold curF; iexact Hs
  isplitl [HD2 Hh]
  · iapply (dir_gain m ρ b c hg (by omega))
    isplitl [Hh]; · iexact Hh
    iexact HD2
  iexact HO

/-! ## Departing -/

/-- What a direction gives for a departure, and its state after it. -/
theorem dir_gone (b : Bool) (c : Dev nD) {g st rc st' rc' : ℕ} (hg : g < 62) (hst : g < st) (hst' : st' ≤ g + 30) :
    Dir (F := F) m ρ b c st rc g st' rc'
      ⊢ iprop(flyF b c g ∗ pos false b c g
          ∗ (iprop(pos false b c (g + 31) ∗ curF m ρ b c g) -∗ Dir m ρ b c st rc (g + 1) st' rc')) := by
  unfold Dir
  rw [seg_first (flyF b c) hst, seg_first (pos false b c) (show g < g + 31 by omega), show g + 1 + 31 = g + 31 + 1 by omega,
    seg_last (pos false b c) (show g + 1 ≤ g + 31 by omega)]
  have e : iprop(curF (F := F) m ρ b c g ∗ seg (junkF b c) (st' - 30) (min 31 g) ∗ seg (curF m ρ b c) 31 g)
      ⊢ iprop(seg (junkF b c) (st' - 30) (min 31 (g + 1)) ∗ seg (curF m ρ b c) 31 (g + 1)) := by
    rcases Nat.lt_or_ge g 31 with h | h
    · rw [show min 31 g = g by omega, show min 31 (g + 1) = g + 1 by omega, seg_last (junkF b c) (show st' - 30 ≤ g by omega),
        seg_none (curF m ρ b c) (show g ≤ 31 by omega), seg_none (curF m ρ b c) (show g + 1 ≤ 31 by omega)]
      iintro ⟨H1, H2, H3⟩
      isplitl [H1 H2]
      · isplitl [H1]; · unfold junkF curF; iexists _; iexact H1
        iexact H2
      iexact H3
    · rw [show min 31 g = 31 by omega, show min 31 (g + 1) = 31 by omega, seg_last (curF m ρ b c) h]
      iintro ⟨H1, H2, H3⟩
      isplitl [H2]; · iexact H2
      isplitl [H1]; · iexact H1
      iexact H3
  iintro ⟨Htok, Hlnd, Hjunk, Hfin, ⟨Hf, Hfly⟩, Hcur, Hfresh, Hslot, Hcome, Hrp, ⟨Hp, Hsp⟩⟩
  isplitl [Hf]; · iexact Hf
  isplitl [Hp]; · iexact Hp
  iintro ⟨Hp, Hc⟩
  icases e $$ [Hc Hjunk Hfin] with ⟨Hjunk, Hfin⟩
  · isplitl [Hc]; · iexact Hc
    isplitl [Hjunk]; · iexact Hjunk
    iexact Hfin
  isplitl [Htok]; · iexact Htok
  isplitl [Hlnd]; · iexact Hlnd
  isplitl [Hjunk]; · iexact Hjunk
  isplitl [Hfin]; · iexact Hfin
  isplitl [Hfly]; · iexact Hfly
  isplitl [Hcur]; · iexact Hcur
  isplitl [Hfresh]; · iexact Hfresh
  isplitl [Hslot]; · iexact Hslot
  isplitl [Hcome]; · iexact Hcome
  isplitl [Hrp]; · iexact Hrp
  isplitl [Hp]; · iexact Hp
  iexact Hsp

/-- A departure awaited. -/
theorem mid_wait (b : Bool) (c : Dev nD) {g st rc st' rc' dd' : ℕ} (hg : g < 62) (hst : g < st) (hst' : st' ≤ g + 30)
    {a : DmaSems sig S31} (ha : a = semsOf false b) {s : Fin 31} (hs : s = fs g)
    {src dst : Memref sig .tc .vmem S24x1536 .f32} (hN : dst.view.dmaCredit = N)
    {hsrc : src.view.WordExact} {hdst : dst.view.WordExact}
    {k : Body F} {Q : PUnit → sProp 𝕄} :
    iprop(world m ρ K ∗ Mid m ρ b c st rc g st' rc' dd')
      ⊢ iprop((Mid m ρ b c st rc (g + 1) st' rc' dd' -∗ WP c k Q)
          -∗ WP c (.op (.waitDma2 (semAt a s) src dst hsrc hdst) fun _ => k) Q) := by
  obtain ⟨n, n', hO⟩ : ∃ n n', (owingB b c st st' : sProp 𝕄) = owing c n n' := by
    cases b
    · exact ⟨st', st, rfl⟩
    · exact ⟨st, st', rfl⟩
  unfold Mid
  rw [hO]
  iintro ⟨#HW, HD1, HD2, HO⟩ Hk
  icases (dir_gone m ρ b c hg hst hst') $$ HD1 with ⟨Hc, Hp, Hback⟩
  unfold flyF
  iapply (wp_take m ρ K false b c hg (n := n) (n' := n') (by rw [lv_send]; omega) (rest_send m ρ c b hg) ha hs hN) $$ [Hc Hp HO]
  · isplitr; · iexact HW
    isplitl [Hc]; · iexact Hc
    isplitl [HO]; · iexact HO
    iexact Hp
  unfold sendPay
  iintro ⟨HO, Hp, Hs⟩
  iapply Hk
  isplitl [Hback Hp Hs]
  · iapply Hback
    isplitl [Hp]; · iexact Hp
    unfold curF; iexact Hs
  isplitl [HD2]; · iexact HD2
  iexact HO

/-! ## A step of both directions -/

/-- After `st` sends and arrivals each way and `dd` departures each way. -/
abbrev At (c : Dev nD) (st dd : ℕ) : sProp 𝕄 := Mid m ρ true c st st dd st st dd

/-- A step of the reduce-scatter. -/
theorem at_rsStep (c : Dev nD) {g dd : ℕ} (hg : g < 31) (hdd : dd ≤ g) (hdd2 : g ≤ dd + 1) {s : Fin 31} (hs : s.val = g)
    {k : Body F} {Q : PUnit → sProp 𝕄} :
    iprop(world m ρ K ∗ At m ρ c g dd) ⊢ iprop((At m ρ c (g + 1) dd -∗ WP c k Q) -∗ WP c (rsStep X c s k) Q) := by
  have hsf : s = fs g := Fin.ext (by rw [hs]; exact (Nat.mod_eq_of_lt hg).symm)
  have o1 : ∀ b, offSend b c s = pOff b c g := fun b => by rw [offSend_eq, hs]
  have o2 : ∀ b, offAcc b c s = pOff b c (g + 1) := fun b => by rw [offAcc_eq, hs]
  unfold rsStep At
  iintro ⟨#HW, HM⟩ Hk
  iapply (mid_rsStart m ρ K true c (g := g) (rc := g) (dd := dd) (st' := g) (rc' := g) (dd' := dd) hg le_rfl hdd (by omega) (by omega) (by omega) (dest_eq true c) hsf (o1 true)) $$ [HM]
  · isplitr; · iexact HW
    iexact HM
  iintro HM
  ihave HM := (mid_swap m ρ true c _ _ _ _ _ _) $$ HM
  iapply (mid_rsStart m ρ K false c (g := g) (rc := g) (dd := dd) (st' := (g + 1)) (rc' := g) (dd' := dd) hg le_rfl hdd (by omega) (by omega) (by omega) (dest_eq false c) hsf (o1 false)) $$ [HM]
  · isplitr; · iexact HW
    iexact HM
  iintro HM
  ihave HM := (mid_swap m ρ false c _ _ _ _ _ _) $$ HM
  iapply (mid_rsRecv m ρ K true c (g := g) (st := g + 1) (dd := dd) (st' := g + 1) (rc' := g) (dd' := dd) hg rfl rfl hsf (o2 true)) $$ [HM]
  · isplitr; · iexact HW
    iexact HM
  iintro HM
  ihave HM := (mid_swap m ρ true c _ _ _ _ _ _) $$ HM
  iapply (mid_rsRecv m ρ K false c (g := g) (st := g + 1) (dd := dd) (st' := g + 1) (rc' := g + 1) (dd' := dd) hg rfl rfl hsf (o2 false)) $$ [HM]
  · isplitr; · iexact HW
    iexact HM
  iintro HM
  ihave HM := (mid_swap m ρ false c _ _ _ _ _ _) $$ HM
  iapply Hk
  iexact HM

/-- A step of the all-gather. -/
theorem at_gStep (c : Dev nD) {g dd : ℕ} (hg0 : 31 ≤ g) (hg : g < 62) (hdd : dd ≤ g) (hdd2 : g ≤ dd + 1) {s : Fin 31} (hs : s.val + 31 = g)
    {k : Body F} {Q : PUnit → sProp 𝕄} :
    iprop(world m ρ K ∗ At m ρ c g dd) ⊢ iprop((At m ρ c (g + 1) dd -∗ WP c k Q) -∗ WP c (gStep X c s k) Q) := by
  have hsf : s = fs g := Fin.ext (by have := s.isLt; show s.val = g % 31; omega)
  have o1 : ∀ b, offGat b c s = pOff b c g := fun b => by rw [offGat_eq, hs]
  unfold gStep At
  iintro ⟨#HW, HM⟩ Hk
  iapply (mid_gStart m ρ K true c (g := g) (rc := g) (dd := dd) (st' := g) (rc' := g) (dd' := dd) hg0 hg le_rfl hdd (by omega) le_rfl (by omega) (by omega) (dest_eq true c) hsf (o1 true)) $$ [HM]
  · isplitr; · iexact HW
    iexact HM
  iintro HM
  ihave HM := (mid_swap m ρ true c _ _ _ _ _ _) $$ HM
  iapply (mid_gStart m ρ K false c (g := g) (rc := g) (dd := dd) (st' := (g + 1)) (rc' := g) (dd' := dd) hg0 hg le_rfl hdd (by omega) le_rfl (by omega) (by omega) (dest_eq false c) hsf (o1 false)) $$ [HM]
  · isplitr; · iexact HW
    iexact HM
  iintro HM
  ihave HM := (mid_swap m ρ false c _ _ _ _ _ _) $$ HM
  iapply (mid_gRecv m ρ K true c (g := g) (st := g + 1) (dd := dd) (st' := g + 1) (rc' := g) (dd' := dd) hg0 hg rfl rfl hsf rfl) $$ [HM]
  · isplitr; · iexact HW
    iexact HM
  iintro HM
  ihave HM := (mid_swap m ρ true c _ _ _ _ _ _) $$ HM
  iapply (mid_gRecv m ρ K false c (g := g) (st := g + 1) (dd := dd) (st' := g + 1) (rc' := g + 1) (dd' := dd) hg0 hg rfl rfl hsf rfl) $$ [HM]
  · isplitr; · iexact HW
    iexact HM
  iintro HM
  ihave HM := (mid_swap m ρ false c _ _ _ _ _ _) $$ HM
  iapply Hk
  iexact HM

/-- The departures of a step of the reduce-scatter, -/
theorem at_rsDone (c : Dev nD) {g st : ℕ} (hg : g < 31) (hst : g < st) (hst' : st ≤ g + 30) {s : Fin 31} (hs : s.val = g)
    {k : Body F} {Q : PUnit → sProp 𝕄} :
    iprop(world m ρ K ∗ At m ρ c st g) ⊢ iprop((At m ρ c st (g + 1) -∗ WP c k Q) -∗ WP c (rsDone X c s k) Q) := by
  have hsf : s = fs g := Fin.ext (by rw [hs]; exact (Nat.mod_eq_of_lt hg).symm)
  unfold rsDone rsWait At
  iintro ⟨#HW, HM⟩ Hk
  iapply (mid_wait m ρ K true c (show g < 62 by omega) hst hst' rfl hsf (credit_row _ _)) $$ [HM]
  · isplitr; · iexact HW
    iexact HM
  iintro HM
  ihave HM := (mid_swap m ρ true c _ _ _ _ _ _) $$ HM
  iapply (mid_wait m ρ K false c (show g < 62 by omega) hst hst' rfl hsf (credit_row _ _)) $$ [HM]
  · isplitr; · iexact HW
    iexact HM
  iintro HM
  ihave HM := (mid_swap m ρ false c _ _ _ _ _ _) $$ HM
  iapply Hk
  iexact HM

/-- and of one of the all-gather. -/
theorem at_gDone (c : Dev nD) {g st : ℕ} (hg0 : 31 ≤ g) (hg : g < 62) (hst : g < st) (hst' : st ≤ g + 30) {s : Fin 31} (hs : s.val + 31 = g)
    {k : Body F} {Q : PUnit → sProp 𝕄} :
    iprop(world m ρ K ∗ At m ρ c st g) ⊢ iprop((At m ρ c st (g + 1) -∗ WP c k Q) -∗ WP c (gDone X c s k) Q) := by
  have hsf : s = fs g := Fin.ext (by have := s.isLt; show s.val = g % 31; omega)
  unfold gDone gWait At
  iintro ⟨#HW, HM⟩ Hk
  iapply (mid_wait m ρ K true c hg hst hst' rfl hsf (credit_row _ _)) $$ [HM]
  · isplitr; · iexact HW
    iexact HM
  iintro HM
  ihave HM := (mid_swap m ρ true c _ _ _ _ _ _) $$ HM
  iapply (mid_wait m ρ K false c hg hst hst' rfl hsf (credit_row _ _)) $$ [HM]
  · isplitr; · iexact HW
    iexact HM
  iintro HM
  ihave HM := (mid_swap m ρ false c _ _ _ _ _ _) $$ HM
  iapply Hk
  iexact HM

/-! ## The loops -/

/-- The reduce-scatter's loop. -/
theorem at_rsLoop (c : Dev nD) : ∀ (n s : ℕ) (h : s + n = 30) {k : Body F} {Q : PUnit → sProp 𝕄},
    iprop(world m ρ K ∗ At m ρ c (s + 1) s) ⊢ iprop((At m ρ c 31 30 -∗ WP c k Q) -∗ WP c (rsLoop X c n s h k) Q)
  | 0, s, h, k, Q => by
    obtain rfl : s = 30 := h
    iintro ⟨-, HM⟩ Hk
    unfold rsLoop
    iapply Hk; iexact HM
  | n + 1, s, h, k, Q => by
    unfold rsLoop
    iintro ⟨#HW, HM⟩ Hk
    iapply (at_rsStep m ρ K c (g := s + 1) (dd := s) (by omega) (by omega) le_rfl rfl) $$ [HM]
    · isplitr; · iexact HW
      iexact HM
    iintro HM
    iapply (at_rsDone m ρ K c (g := s) (st := s + 1 + 1) (by omega) (by omega) (by omega) rfl) $$ [HM]
    · isplitr; · iexact HW
      iexact HM
    iintro HM
    iapply (at_rsLoop c n (s + 1) _) $$ [HM]
    · isplitr; · iexact HW
      iexact HM
    iexact Hk

/-- The all-gather's loop. -/
theorem at_gLoop (c : Dev nD) : ∀ (n s : ℕ) (h : s + n = 30) {k : Body F} {Q : PUnit → sProp 𝕄},
    iprop(world m ρ K ∗ At m ρ c (s + 32) (s + 31)) ⊢ iprop((At m ρ c 62 61 -∗ WP c k Q) -∗ WP c (gLoop X c n s h k) Q)
  | 0, s, h, k, Q => by
    obtain rfl : s = 30 := h
    iintro ⟨-, HM⟩ Hk
    unfold gLoop
    iapply Hk; iexact HM
  | n + 1, s, h, k, Q => by
    unfold gLoop
    iintro ⟨#HW, HM⟩ Hk
    iapply (at_gStep m ρ K c (g := s + 32) (dd := s + 31) (by omega) (by omega) (by omega) le_rfl
      (show s + 1 + 31 = s + 32 by omega)) $$ [HM]
    · isplitr; · iexact HW
      iexact HM
    iintro HM
    iapply (at_gDone m ρ K c (g := s + 31) (st := s + 32 + 1) (by omega) (by omega) (by omega) (by omega) rfl) $$ [HM]
    · isplitr; · iexact HW
      iexact HM
    rw [show s + 32 + 1 = s + 1 + 32 by omega, show s + 31 + 1 = s + 1 + 31 by omega]
    iintro HM
    iapply (at_gLoop c n (s + 1) _) $$ [HM]
    · isplitr; · iexact HW
      iexact HM
    iexact Hk

/-- The ring from its first send to its last departure. -/
theorem at_ring (c : Dev nD) {k : Body F} {Q : PUnit → sProp 𝕄} :
    iprop(world m ρ K ∗ At m ρ c 0 0) ⊢ iprop((At m ρ c 62 62 -∗ WP c k Q)
      -∗ WP c (rsStep X c 0 <| rsLoop X c 30 0 rfl <| gStep X c 0 <| rsDone X c 30 <| gLoop X c 30 0 rfl <| gDone X c 30 k) Q) := by
  iintro ⟨#HW, HM⟩ Hk
  iapply (at_rsStep m ρ K c (g := 0) (dd := 0) (by omega) le_rfl (by omega) rfl) $$ [HM]
  · isplitr; · iexact HW
    iexact HM
  iintro HM
  iapply (at_rsLoop m ρ K c 30 0 rfl) $$ [HM]
  · isplitr; · iexact HW
    iexact HM
  iintro HM
  iapply (at_gStep m ρ K c (g := 31) (dd := 30) le_rfl (by omega) (by omega) le_rfl rfl) $$ [HM]
  · isplitr; · iexact HW
    iexact HM
  iintro HM
  iapply (at_rsDone m ρ K c (g := 30) (st := 32) (by omega) (by omega) (by omega) rfl) $$ [HM]
  · isplitr; · iexact HW
    iexact HM
  iintro HM
  iapply (at_gLoop m ρ K c 30 0 rfl) $$ [HM]
  · isplitr; · iexact HW
    iexact HM
  iintro HM
  iapply (at_gDone m ρ K c (g := 61) (st := 62) (by omega) (by omega) (by omega) (by omega) rfl) $$ [HM]
  · isplitr; · iexact HW
    iexact HM
  iexact Hk

end Cert.RingProof

end
-- ==== Proof.Buffers.lean ====
/-
The buffers whole and in pieces: the output buffer as 64 blocks of rows, a landing buffer as 31 slots; and the cells
closed at the end.
-/
module

public import proofs.«01_k».proof.Proof.Ring
public import Idealize.ShloMosaic.Lib.Ring

@[expose] public section

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ) (ρ : Dev nD → PrngReg)
variable (K : Dev nD × CK → ℕ)

/-! ## Families -/

/-- A family over `Fin n` as a run of steps from `a`. -/
theorem fin_seg (A : ℕ → sProp 𝕄) (a n : ℕ) :
    (bigSep Finset.univ fun e : Fin n => A (a + e.val)) = seg A a (a + n) := by
  have h : Finset.Ico a (a + n) = Finset.univ.map ⟨fun e : Fin n => a + e.val, fun x y h => Fin.ext (Nat.add_left_cancel h)⟩ := by
    ext x
    simp only [Finset.mem_Ico, Finset.mem_map, Finset.mem_univ, true_and, Function.Embedding.coeFn_mk]
    constructor
    · intro h; exact ⟨⟨x - a, by omega⟩, by show a + (x - a) = x; omega⟩
    · rintro ⟨e, rfl⟩; have := e.isLt; show a ≤ a + e.val ∧ a + e.val < a + n; omega
  unfold seg
  rw [h, bigSep_map]; rfl

/-- A family over the two directions. -/
theorem bigSep_dir (Φ : Bool → sProp 𝕄) : bigSep Finset.univ Φ = iprop(Φ true ∗ Φ false) :=
  bigSep_univ_eq_bigSepL [true, false] (by decide) (by decide) Φ

/-- Each member of a family changed with the help of what lasts. -/
theorem family_with {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ := by
  have h1 : iprop(R ∗ bigSep S Φ) ⊢ bigSep S fun i => iprop(R ∗ Φ i) := by
    rw [bigSep_sep']
    iintro ⟨#HR, H⟩
    isplitr
    · iapply (BI.bigSep_of_persistent S R); iexact HR
    · iexact H
  exact h1.trans (bigSep_mono h)

/-! ## Blocks of the output buffer -/

/-- The rectangle of block `t` of the family that starts at step `a`. -/
abbrev blk (a : ℕ) (c : Dev nD) (t : Bool × Fin 32) : Rect S1536x1536 :=
  rowRect (pOff t.1 c (a + t.2.val)) (pOff_in t.1 c (a + t.2.val))

/-- An element is in a block where its row is. -/
theorem mem_blk (a : ℕ) (c : Dev nD) (t : Bool × Fin 32) (i : S1536x1536.Idx) :
    i ∈ (blk a c t).set ↔ pOff t.1 c (a + t.2.val) 0 ≤ (i 0).val ∧ (i 0).val < pOff t.1 c (a + t.2.val) 0 + 24 := by
  rw [Rect.mem_set_unit]
  constructor
  · intro h; exact h 0
  · intro h x
    fin_cases x
    · exact h
    · exact ⟨Nat.zero_le _, by have := (i 1).isLt; show (i 1).val < 0 + 1536; change (i 1).val < 1536 at this; omega⟩

/-- The first row of a block. -/
theorem pOff_row (b : Bool) (c : Dev nD) (k : ℕ) :
    pOff b c k 0 = 48 * ((c.val + (if b then 31 else 1) * k) % 32) + (if b then 0 else 24) := rfl

/-- The 64 blocks are disjoint, -/
theorem blk_disjoint (a : ℕ) (c : Dev nD) (t t' : Bool × Fin 32) (h : t ≠ t') : Disjoint (blk a c t).set (blk a c t').set := by
  rw [Finset.disjoint_left]
  intro i h1 h2
  rw [mem_blk, pOff_row] at h1 h2
  apply h
  obtain ⟨b, e⟩ := t
  obtain ⟨b', e'⟩ := t'
  have he := e.isLt
  have he' := e'.isLt
  have hc : c.val < 32 := c.isLt
  simp only at h1 h2
  cases b <;> cases b' <;> simp only [if_true, if_false, Bool.false_eq_true] at h1 h2
  · have : e = e' := Fin.ext (by omega)
    rw [this]
  · omega
  · omega
  · have : e = e' := Fin.ext (by omega)
    rw [this]

/-- The direction whose blocks hold a row, -/
def dirOf (i : S1536x1536.Idx) : Bool := decide ((i 0).val / 24 % 2 = 0)
/-- and the number from 31 on of the block that does. -/
def numOf (b : Bool) (c : Dev nD) (i : S1536x1536.Idx) : Fin 32 :=
  ⟨if b then (c.val + 33 - (i 0).val / 48) % 32 else ((i 0).val / 48 + 33 - c.val) % 32, by split <;> exact Nat.mod_lt _ (by decide)⟩

/-- An element is in the block of its direction and number. -/
theorem mem_blk_of (c : Dev nD) (i : S1536x1536.Idx) : i ∈ (blk 31 c (dirOf i, numOf (dirOf i) c i)).set := by
  have hi : (i 0).val < 1536 := (i 0).isLt
  have hc : c.val < 32 := c.isLt
  rw [mem_blk, pOff_row]
  have hd : dirOf i = decide ((i 0).val / 24 % 2 = 0) := rfl
  generalize dirOf i = b at hd ⊢
  unfold numOf
  cases b
  · have h' : ¬ (i 0).val / 24 % 2 = 0 := of_decide_eq_false hd.symm
    simp only [if_false, Bool.false_eq_true]
    omega
  · have h' : (i 0).val / 24 % 2 = 0 := of_decide_eq_true hd.symm
    simp only [if_true]
    omega

/-- So the blocks of the last steps cover the result, -/
theorem blk_cover31 (c : Dev nD) : (Finset.univ : Finset (Bool × Fin 32)).biUnion (fun t => (blk 31 c t).set) = Finset.univ := by
  ext i
  simp only [Finset.mem_biUnion, Finset.mem_univ, true_and, iff_true]
  exact ⟨_, mem_blk_of c i⟩

/-- and so do those of the first steps. -/
theorem blk_cover0 (c : Dev nD) : (Finset.univ : Finset (Bool × Fin 32)).biUnion (fun t => (blk 0 c t).set) = Finset.univ := by
  ext i
  simp only [Finset.mem_biUnion, Finset.mem_univ, true_and, iff_true]
  refine ⟨(dirOf i, ⟨(31 + (numOf (dirOf i) c i).val) % 32, Nat.mod_lt _ (by decide)⟩), ?_⟩
  have h := mem_blk_of c i
  rw [mem_blk] at h ⊢
  have e : pOff (dirOf i) c (0 + (31 + (numOf (dirOf i) c i).val) % 32) = pOff (dirOf i) c (31 + (numOf (dirOf i) c i).val) := by
    rcases Nat.lt_or_ge (31 + (numOf (dirOf i) c i).val) 32 with h | h
    · rw [Nat.mod_eq_of_lt h, Nat.zero_add]
    · rw [← pOff_period, Nat.zero_add]
      have := (numOf (dirOf i) c i).isLt
      congr 1; omega
  simp only at h ⊢
  rw [e]; exact h

/-- The output buffer in blocks, -/
theorem out_split (c : Dev nD) (Z : Vec F S1536x1536 .f32) (A : Bool → ℕ → sProp 𝕄)
    (hA : ∀ b k, A b k = piece b c k fun j => Z ((rowRect (pOff b c k) (pOff_in b c k)).emb j)) :
    (owns (c : Thread nD τ) X.o fullShare Z : sProp 𝕄) ⊢ iprop(seg (A true) 0 32 ∗ seg (A false) 0 32) := by
  refine (owns_rects (c : Thread nD τ) X.o fullShare (blk 0 c) (fun _ _ => rfl) (blk_disjoint 0 c) (blk_cover0 c) Z).trans ?_
  rw [bigSep_univ_prod, bigSep_dir]
  have h (b : Bool) : (bigSep Finset.univ fun e : Fin 32 =>
      (owns (c : Thread nD τ) (X.o.slice (blk 0 c (b, e)) (fun _ => rfl)) fullShare (fun j => Z ((blk 0 c (b, e)).emb j)) : sProp 𝕄)) = seg (A b) 0 32 := by
    rw [show seg (A b) 0 32 = seg (A b) 0 (0 + 32) from rfl, ← fin_seg]
    refine bigSep_congr fun e _ => ?_
    rw [hA]; rfl
  rw [h true, h false]

/-- and its blocks joined. -/
theorem out_join (c : Dev nD) (Z : Vec F S1536x1536 .f32) (A : Bool → ℕ → sProp 𝕄)
    (hA : ∀ b k, 31 ≤ k → k < 63 → A b k = piece b c k fun j => Z ((rowRect (pOff b c k) (pOff_in b c k)).emb j)) :
    iprop(seg (A true) 31 63 ∗ seg (A false) 31 63) ⊢ (owns (c : Thread nD τ) X.o fullShare Z : sProp 𝕄) := by
  refine BIBase.Entails.trans ?_ (owns_of_rects (c : Thread nD τ) X.o fullShare (blk 31 c) (fun _ _ => rfl) (blk_disjoint 31 c) (blk_cover31 c) Z)
  rw [bigSep_univ_prod, bigSep_dir]
  have h (b : Bool) : (bigSep Finset.univ fun e : Fin 32 =>
      (owns (c : Thread nD τ) (X.o.slice (blk 31 c (b, e)) (fun _ => rfl)) fullShare (fun j => Z ((blk 31 c (b, e)).emb j)) : sProp 𝕄)) = seg (A b) 31 63 := by
    rw [show seg (A b) 31 63 = seg (A b) 31 (31 + 32) from rfl, ← fin_seg]
    refine bigSep_congr fun e _ => ?_
    rw [hA b _ (by omega) (by have := e.isLt; omega)]; rfl
  rw [h true, h false]

/-- What the output buffer of device `c` holds when the ring is over. -/
def Zf (c : Dev nD) : Vec F S1536x1536 .f32 := fun i =>
  Cv m ρ (dirOf i) (31 + (numOf (dirOf i) c i).val) c (Shape.pair ⟨(i 0).val % 24, Nat.mod_lt _ (by decide)⟩ (i 1))

/-- Each block of it holds what its step sent, or got last. -/
theorem Zf_emb (b : Bool) (c : Dev nD) {k : ℕ} (h1 : 31 ≤ k) (h2 : k < 63) (j : S24x1536.Idx) :
    Zf m ρ c ((rowRect (pOff b c k) (pOff_in b c k)).emb j) = Cv m ρ b k c j := by
  have hj : (j 0).val < 24 := (j 0).isLt
  have hc : c.val < 32 := c.isLt
  have e0 : (((rowRect (pOff b c k) (pOff_in b c k)).emb j 0 : Fin _) : ℕ) = 48 * ((c.val + (if b then 31 else 1) * k) % 32) + (if b then 0 else 24) + (j 0).val := by
    rw [Rect.emb_apply]; show pOff b c k 0 + 1 * (j 0).val = _; rw [Nat.one_mul]; rfl
  have e1 : (((rowRect (pOff b c k) (pOff_in b c k)).emb j 1 : Fin _) : ℕ) = (j 1).val := by
    rw [Rect.emb_apply]; show 0 + 1 * (j 1).val = _; omega
  generalize hy : (rowRect (pOff b c k) (pOff_in b c k)).emb j = y at e0 e1
  unfold Zf
  have hd : dirOf y = b := by
    unfold dirOf; rw [e0]
    cases b <;> simp only [if_true, if_false, Bool.false_eq_true, decide_eq_true_eq, decide_eq_false_iff_not] <;> omega
  have hn : 31 + (numOf b c y).val = k := by
    unfold numOf; simp only; rw [e0]
    cases b <;> simp only [if_true, if_false, Bool.false_eq_true] <;> omega
  rw [hd, hn]
  have ej : (Shape.pair ⟨(y 0).val % 24, Nat.mod_lt _ (by decide)⟩ (y 1) : S24x1536.Idx) = j := by
    refine Eq.trans ?_ (Shape.pair_eta j)
    refine congrArg₂ Shape.pair (Fin.ext ?_) (Fin.ext e1)
    show (y 0).val % 24 = (j 0).val
    rw [e0]; cases b <;> simp only [if_true, if_false, Bool.false_eq_true] <;> omega
  rw [ej]

/-! ## Slots of a landing buffer -/

/-- Landing buffer `b` of device `c`, -/
abbrev cmLoc (b : Bool) (c : Dev nD) : Loc nD τ sig := (X.cm b).view.loc (c : Thread nD τ)
/-- and the indices of its slot `s`. -/
abbrev slotSet (b : Bool) (c : Dev nD) (s : Fin 31) : Finset (cmLoc b c).ty.Idx := (slotM (X.cm b) s).view.set

/-- A slot is one value of the first coordinate. -/
theorem mem_slot (s : Fin 31) (i : S31x24x1536.Idx) : i ∈ (slotRect s).set ↔ (i 0).val = s.val := by
  rw [Rect.mem_set_unit]
  constructor
  · intro h
    have := h 0
    change s.val ≤ (i 0).val ∧ (i 0).val < s.val + 1 at this
    omega
  · intro h x
    fin_cases x
    · show s.val ≤ (i 0).val ∧ (i 0).val < s.val + 1; omega
    · have := (i 1).isLt; change (i 1).val < 24 at this; show 0 ≤ (i 1).val ∧ (i 1).val < 0 + 24; omega
    · have := (i 2).isLt; change (i 2).val < 1536 at this; show 0 ≤ (i 2).val ∧ (i 2).val < 0 + 1536; omega

/-- The slots of a landing buffer are disjoint -/
theorem slot_disjoint (s s' : Fin 31) (h : s ≠ s') : Disjoint (slotRect s).set (slotRect s').set := by
  rw [Finset.disjoint_left]
  intro i h1 h2
  rw [mem_slot] at h1 h2
  exact h (Fin.ext (h1.symm.trans h2))

/-- and cover it; -/
theorem slot_cover : (Finset.univ : Finset (Fin 31)).biUnion (fun s => (slotRect s).set) = Finset.univ := by
  ext i
  simp only [Finset.mem_biUnion, Finset.mem_univ, true_and, iff_true]
  exact ⟨⟨(i 0).val, (i 0).isLt⟩, (mem_slot _ i).2 rfl⟩

/-- so are the sets of elements that they take of the buffer, -/
theorem slotSet_disjoint (b : Bool) (c : Dev nD) (s s' : Fin 31) (h : s ≠ s') : Disjoint (slotSet b c s) (slotSet b c s') := by
  have e (s : Fin 31) (b : Bool) : HEq (slotSet b c s) (slotRect s).set := by
    cases b <;> exact heq_of_eq ((View.set_reshape _ _).trans (View.set_slice_whole _ _))
  cases b
  · rw [eq_of_heq (e s false), eq_of_heq (e s' false)]; exact slot_disjoint s s' h
  · rw [eq_of_heq (e s true), eq_of_heq (e s' true)]; exact slot_disjoint s s' h

/-- which cover it as well. -/
theorem slotSet_cover (b : Bool) (c : Dev nD) : (Finset.univ : Finset (Fin 31)).biUnion (slotSet b c) = Finset.univ := by
  have e (b : Bool) : HEq (slotSet b c) (fun s => (slotRect s).set) := by
    cases b <;> exact heq_of_eq (funext fun s => (View.set_reshape _ _).trans (View.set_slice_whole _ _))
  cases b
  · rw [eq_of_heq (e false)]; exact slot_cover
  · rw [eq_of_heq (e true)]; exact slot_cover

/-- A slot of any contents, both ways. -/
theorem slot_any (b : Bool) (c : Dev nD) (s : Fin 31) :
    (slotF (F := F) b c s.val : sProp 𝕄) ⊣⊢ iprop(∃ f, cmLoc b c ↦[slotSet b c s]{fullShare} f) := by
  have hs : fs s.val = s := Fin.ext (Nat.mod_eq_of_lt s.isLt)
  unfold slotF slotAt
  rw [hs]
  constructor
  · iintro ⟨%v, H⟩
    unfold owns
    icases H with ⟨%f, -, H⟩
    iexists f
    iexact H
  · iintro ⟨%f, H⟩
    iexists _
    iapply (owns_intro (c : Thread nD τ) (slotM (X.cm b) s) fullShare f)
    iexact H

/-- A landing buffer in slots, -/
theorem cm_split (b : Bool) (c : Dev nD) : iprop(∃ f, cmLoc b c ↦{fullShare} f) ⊢ (seg (slotF (F := F) b c) 0 31 : sProp 𝕄) := by
  have h (f : Buf (Elt F) (cmLoc b c)) : (cmLoc b c ↦{fullShare} f : sProp 𝕄) ⊢ seg (slotF (F := F) b c) 0 31 := by
    rw [Ring.pointsTo_blocks (slotSet b c) (slotSet_disjoint b c) (slotSet_cover b c) f, show seg (slotF (F := F) b c) 0 31 = seg (slotF (F := F) b c) 0 (0 + 31) from rfl, ← fin_seg]
    refine bigSep_mono fun s _ => ?_
    rw [Nat.zero_add]
    refine BIBase.Entails.trans ?_ (slot_any b c s).2
    iintro H
    iexists f
    iexact H
  iintro ⟨%f, H⟩
  iapply (h f)
  iexact H

/-- and its slots joined. -/
theorem cm_join (b : Bool) (c : Dev nD) : (seg (slotF (F := F) b c) 0 31 : sProp 𝕄) ⊢ iprop(∃ f, cmLoc b c ↦{fullShare} f) := by
  haveI : ∀ e : EltTy, Nonempty (Elt F e) := fun e => inferInstance
  refine BIBase.Entails.trans ?_ (Ring.pointsTo_blocks_join_exists (slotSet b c) (slotSet_disjoint b c) (slotSet_cover b c) (fun _ => Classical.arbitrary _))
  rw [show seg (slotF (F := F) b c) 0 31 = seg (slotF (F := F) b c) 0 (0 + 31) from rfl, ← fin_seg]
  refine bigSep_mono fun s _ => ?_
  rw [Nat.zero_add]
  exact (slot_any b c s).1

/-! ## Closing -/

/-- The cell of a transfer's semaphore closes once two rounds of it are through: its semaphore is at zero. -/
theorem close_one (rv b : Bool) (c : Dev nD) (s : Fin 31) :
    iprop(world m ρ K ∗ pos rv b c (62 + s.val)) ⊢ (|={Set.univ}=> semVal (kcell (c, some (rv, b, s))) 0 : sProp 𝕄) := by
  have hs : fs (62 + s.val) = s := Fin.ext (by show (62 + s.val) % 31 = s.val; have := s.isLt; omega)
  have hd : (62 + s.val) / 31 = 2 := by have := s.isLt; omega
  unfold pos
  rw [hs, hd]
  iintro ⟨#HW, H, -⟩
  ihave #HI := (inv_at m ρ K (c, some (rv, b, s))) $$ HW
  iapply (Rounds.cell_close ER (ringRd m ρ) (Set.mem_univ (K (c, some (rv, b, s)))) (fun h => h) (R := 2)
    (fun r hr => duties_cell_later m ρ c b rv s r hr))
  isplitl []
  · iexact HI
  iexact H

/-- The barrier cell closes after its one round. -/
theorem close_bar (c : Dev nD) :
    iprop(world m ρ K ∗ atPos ER (barCell c) 1 ∅ 0) ⊢ (|={Set.univ}=> semVal (barCell c) 0 : sProp 𝕄) := by
  iintro ⟨#HW, H⟩
  ihave #HI := (inv_at m ρ K (c, none)) $$ HW
  iapply (Rounds.cell_close ER (ringRd m ρ) (Set.mem_univ (K (c, none))) (fun h => h) (R := 1)
    (fun r hr => duties_bar_later m ρ _ _ hr))
  isplitl []
  · iexact HI
  iexact H

/-- All the cells of one side and direction close. -/
theorem close_side (rv b : Bool) (c : Dev nD) :
    iprop(world m ρ K ∗ seg (pos rv b c) 62 93)
      ⊢ (|={Set.univ}=> bigSep Finset.univ fun s : Fin 31 => semVal (kcell (c, some (rv, b, s))) 0 : sProp 𝕄) := by
  rw [show seg (pos (F := F) rv b c) 62 93 = seg (pos (F := F) rv b c) 62 (62 + 31) from rfl, ← fin_seg]
  exact (family_with fun s _ => close_one m ρ K rv b c s).trans (bigSep_fupd _ _)

end Cert.RingProof

end
-- ==== Proof.Body.lean ====
/-
The body of a device, from what it is given at launch to what it leaves: the meeting, the product, the ring, the activation.
-/
module

public import proofs.«01_k».proof.Proof.Buffers
public import proofs.«01_k».proof.Proof.Gen.KernelIdeal.Launch
public import proofs.«01_k».proof.Proof.Gen.KernelIdeal.Points

@[expose] public section

noncomputable section

namespace Cert.RingProof

open Cert.KernelIdeal Cert.KernelIdeal.Gen
open Idealize.ShloMosaic Idealize.ShloMosaic.Pipeline
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ) (ρ : Dev nD → PrngReg)
variable (K : Dev nD × CK → ℕ)

/-! ## The meeting -/

/-- What a device hands a neighbour when they meet: its landing slots. -/
theorem bar_intro (b : Bool) (c : Dev nD) :
    iprop(world m ρ K ∗ seg (slotF (F := F) b c) 0 31) ⊢ (barPay b (up b c) : sProp 𝕄) := by
  unfold barPay seg
  refine family_with fun j hj => ?_
  have hj := (Finset.mem_Ico.mp hj).2
  have e : dn b (up b c) = c := dn_up b c
  unfold Lnd slotF
  rw [if_pos hj, e, show j / 31 = 0 by omega]
  iintro ⟨#HW, H⟩
  isplitl [H]; · iexact H
  iapply (reached_at m ρ K (c, some (true, b, fs j))); iexact HW

/-- The meeting: each neighbour is handed the slots it will fill, and hands over those that this device will. -/
theorem wp_meet (c : Dev nD) (W : Waits sig ℕ) {k : Body F} {Q : PUnit → sProp 𝕄} :
    iprop(world m ρ K ∗ atPos ER (barCell c) 0 ∅ 0
        ∗ dutyTok ER (barCell (up true c)) 0 true ∗ dutyTok ER (barCell (up false c)) 0 false
        ∗ cred (tallyAt (barCell c) 0 2) ∗ seg (slotF (F := F) true c) 0 31 ∗ seg (slotF (F := F) false c) 0 31
        ∗ owes (c : Thread nD τ) (O₀ c) W)
      ⊢ iprop(((atPos ER (barCell c) 1 ∅ 0 ∗ barPay true c ∗ barPay false c ∗ owing c 0 0) -∗ WP c k Q) -∗ WP c (meet c k) Q) := by
  unfold meet
  simp only [dev1_eq c, dev2_eq c]
  iintro ⟨#HW, Hat, Ht, Ht', Hc, Hs, Hs', HO⟩ Hk
  iapply (Rounds.wp_signal 𝒱₀ ER (ringRd m ρ) (c : Thread nD τ) none (dst := (up true c : Thread nD τ)) (κ := K (up true c, none))
      (d := true) (by rw [duties_bar]; exact Finset.mem_univ _) ((amount_bar m ρ (up true c) true).trans (by decide)) 0 (O₁ c) rfl)
    $$ [HO Ht Hs]
  · isplitr; · iapply (inv_at m ρ K (up true c, none)); iexact HW
    isplitl [HO]; · iexact HO
    isplitl [Ht]; · iexact Ht
    isplitl [Hs]
    · rw [payload_bar]
      iapply (bar_intro m ρ K true c)
      isplitr; · iexact HW
      iexact Hs
    iapply (reached_at m ρ K (up true c, none)); iexact HW
  iintro HO
  iapply (Rounds.wp_signal 𝒱₀ ER (ringRd m ρ) (c : Thread nD τ) none (dst := (up false c : Thread nD τ)) (κ := K (up false c, none))
      (d := false) (by rw [duties_bar]; exact Finset.mem_univ _) ((amount_bar m ρ (up false c) false).trans (by decide)) 0 (Ow c 0 0) rfl)
    $$ [HO Ht' Hs']
  · isplitr; · iapply (inv_at m ρ K (up false c, none)); iexact HW
    isplitl [HO]; · iexact HO
    isplitl [Ht']; · iexact Ht'
    isplitl [Hs']
    · rw [payload_bar]
      iapply (bar_intro m ρ K false c)
      isplitr; · iexact HW
      iexact Hs'
    iapply (reached_at m ρ K (up false c, none)); iexact HW
  iintro HO
  iapply (Rounds.wp_wait_rest_token 𝒱₀ ER (ringRd m ρ) (c : Thread nD τ) none (κ := K (c, none))
      (wpE_semWait_eq 𝒱₀ (c : Thread nD τ) none Set.univ) (Set.mem_univ _) 0 (O := Ow c 0 0) (W := W) (R := 0) (m := 0) (T := ∅)
      (by rw [expect_bar]; decide)) $$ [Hc HO Hat]
  · isplitr; · iapply (inv_at m ρ K (c, none)); iexact HW
    isplitl [Hc]; · iexact Hc
    isplitl [HO]; · iexact HO
    isplitr
    · iapply (may_at m ρ K c none 0 0 0 (by decide) (by rw [show kcell (c, none) = barCell c from rfl, lv_bar]; decide)); iexact HW
    iexact Hat
  iintro ⟨HO, Hat, -, Hpay⟩
  ihave Hp := (Entails.of_eq (rest_bar m ρ c)) $$ Hpay
  icases Hp with ⟨Hp, Hp'⟩
  iapply Hk
  isplitl [Hat]; · iexact Hat
  isplitl [Hp]; · iexact Hp
  isplitl [Hp']; · iexact Hp'
  unfold owing
  iexists _; iexact HO

/-! ## The product and the activation -/

/-- The two zero offsets, written as a function. -/
theorem hz : (![0, 0] : Fin 2 → ℕ) = fun _ => 0 := funext fun a => by fin_cases a <;> rfl

/-- A staging buffer of device `c` at contents `v`. -/
abbrev pts (c : Dev nD) (b : Ref sig .tc) (v : b.ty.Contents (Elt F)) : sProp 𝕄 := ((c : Thread nD τ).loc b) ↦{fullShare} v

/-- Writing the whole result buffer replaces it. -/
theorem write_o (f w : (cc0_stg2_0 : Ref sig .tc).ty.Contents (Elt F)) :
    ((X.o).access allO : View sig .tc _ _ _).write (Elt F) f w Finset.univ = w :=
  Memref.write_access_unit_zero_univ (Elt F) cc0_stg2_0 hz _ f w
/-- Reading all of the result buffer gives its contents, -/
theorem read_o (f : (cc0_stg2_0 : Ref sig .tc).ty.Contents (Elt F)) : (X.o).view.readAt (Elt F) allO.toLoadRect f = f :=
  Memref.readAt_unit_zero (Elt F) cc0_stg2_0 hz _ f
/-- as does reading all of the left factor, -/
theorem read_a (f : (cc0_stg0_0 : Ref sig .tc).ty.Contents (Elt F)) :
    (X.a).view.readAt (Elt F) (Rect.unit (s := S1536x768) ![0, 0] S1536x768.size inb_S1536x768_S1536x768_0_0).toLoadRect f = f :=
  Memref.readAt_unit_zero (Elt F) cc0_stg0_0 hz _ f
/-- and of the right one. -/
theorem read_b (f : (cc0_stg1_0 : Ref sig .tc).ty.Contents (Elt F)) :
    (X.b).view.readAt (Elt F) (Rect.unit (s := S768x1536) ![0, 0] S768x1536.size inb_S768x1536_S768x1536_0_0).toLoadRect f = f :=
  Memref.readAt_unit_zero (Elt F) cc0_stg1_0 hz _ f

/-- The product leaves `zs` in the output buffer. -/
theorem wp_product (c : Dev nD) (f : (cc0_stg2_0 : Ref sig .tc).ty.Contents (Elt F)) {k : Body F} {Q : PUnit → sProp 𝕄} :
    iprop(pts c cc0_stg0_0 (As m ρ c) ∗ pts c cc0_stg1_0 (Bs m ρ c) ∗ pts c cc0_stg2_0 f)
      ⊢ iprop(((pts c cc0_stg0_0 (As m ρ c) ∗ pts c cc0_stg1_0 (Bs m ρ c) ∗ pts c cc0_stg2_0 (zs m ρ c)) -∗ WP c k Q)
        -∗ WP c (product X k) Q) := by
  unfold product
  iintro ⟨Ha, Hb, Ho⟩ Hk
  iapply (wp_load 𝒱₀ (c : Thread nD τ) none Set.univ (m := X.a) (Finset.subset_univ _)) $$ Ha; iintro Ha
  rw [read_a]
  iapply (wp_load 𝒱₀ (c : Thread nD τ) none Set.univ (m := X.b) (Finset.subset_univ _)) $$ Hb; iintro Hb
  rw [read_b]
  iapply (wp_load 𝒱₀ (c : Thread nD τ) none Set.univ (m := X.o) (Finset.subset_univ _)) $$ Ho; iintro Ho
  iapply (wp_store 𝒱₀ (c : Thread nD τ) none Set.univ (m := X.o) (r := allO) (Mk := Finset.univ) (Finset.subset_univ _)) $$ Ho; iintro Ho
  rw [write_o]
  iapply Hk
  isplitl [Ha]; · iexact Ha
  isplitl [Hb]; · iexact Hb
  iexact Ho

/-- The activation is applied to all of the output buffer. -/
theorem wp_activate (c : Dev nD) (f : Vec F S1536x1536 .f32) {k : Body F} {Q : PUnit → sProp 𝕄} :
    (pts c cc0_stg2_0 f : sProp 𝕄) ⊢ iprop((pts c cc0_stg2_0 (k0_pay1 f) -∗ WP c k Q) -∗ WP c (activate X k) Q) := by
  unfold activate
  iintro Ho Hk
  iapply (wp_load 𝒱₀ (c : Thread nD τ) none Set.univ (m := X.o) (Finset.subset_univ _)) $$ Ho; iintro Ho
  rw [read_o]
  iapply (wp_load 𝒱₀ (c : Thread nD τ) none Set.univ (m := X.o) (Finset.subset_univ _)) $$ Ho; iintro Ho
  iapply (wp_store 𝒱₀ (c : Thread nD τ) none Set.univ (m := X.o) (r := allO) (Mk := Finset.univ) (Finset.subset_univ _)) $$ Ho; iintro Ho
  rw [write_o]
  iapply Hk
  iexact Ho

/-! ## The ring's two ends -/

/-- A direction of the ring before its first step, -/
theorem dir_enter (b : Bool) (c : Dev nD) :
    iprop(seg (tokF b c) 0 62 ∗ barPay b c ∗ seg (freshF m ρ b c) 0 32 ∗ seg (comeF b c) 0 62
        ∗ seg (pos true b c) 0 31 ∗ seg (pos false b c) 0 31) ⊢ (Dir m ρ b c 0 0 0 0 0 : sProp 𝕄) := by
  unfold Dir
  rw [seg_none (junkF b c) (a := 0 - 30) (b := min 31 0) (by decide), seg_none (curF m ρ b c) (a := 31) (b := 0) (by decide),
    seg_none (flyF b c) (a := 0) (b := 0) (by decide), seg_none (slotF b c) (a := 0) (b := min 0 31) (by decide),
    seg_first (freshF m ρ b c) (a := 0) (b := 32) (by decide),
    seg_first (curF m ρ b c) (a := 0) (b := 0 + 1) (by decide), seg_none (curF m ρ b c) (a := 0 + 1) (b := 0 + 1) le_rfl]
  iintro ⟨Ht, Hb, ⟨Hf, Hfs⟩, Hc, Hp, Hp'⟩
  isplitl [Ht]; · iexact Ht
  isplitl [Hb]; · unfold barPay; iexact Hb
  isplitr; · iempintro
  isplitr; · iempintro
  isplitr; · iempintro
  isplitl [Hf]
  · isplitl [Hf]; · unfold freshF; unfold curF Cv; iexact Hf
    iempintro
  isplitl [Hfs]; · iexact Hfs
  isplitr; · iempintro
  isplitl [Hc]; · iexact Hc
  isplitl [Hp]; · iexact Hp
  iexact Hp'

/-- and after its last. -/
theorem dir_end (b : Bool) (c : Dev nD) :
    (Dir m ρ b c 62 62 62 62 62 : sProp 𝕄) ⊢ iprop(seg (curF m ρ b c) 31 63 ∗ seg (slotF b c) 0 31
        ∗ seg (pos true b c) 62 93 ∗ seg (pos false b c) 62 93) := by
  unfold Dir
  rw [seg_last (curF m ρ b c) (a := 31) (b := 62) (by decide), seg_last (curF m ρ b c) (a := 62) (b := 62) le_rfl,
    seg_none (curF m ρ b c) (a := 62) (b := 62) le_rfl]
  iintro ⟨-, -, -, H1, -, ⟨H2, -⟩, -, Hs, -, Hp, Hp'⟩
  isplitl [H1 H2]
  · isplitl [H2]; · iexact H2
    iexact H1
  isplitl [Hs]; · iexact Hs
  isplitl [Hp]; · iexact Hp
  iexact Hp'

/-! ## The whole body -/

/-- What a device alone has of the ring at launch: where it stands in its cells, and the tokens of the duties it pays. -/
def lin (c : Dev nD) : sProp 𝕄 :=
  iprop(atPos ER (barCell c) 0 ∅ 0 ∗ dutyTok ER (barCell (up true c)) 0 true ∗ dutyTok ER (barCell (up false c)) 0 false
    ∗ (seg (pos true true c) 0 31 ∗ seg (pos false true c) 0 31 ∗ seg (tokF true c) 0 62)
    ∗ (seg (pos true false c) 0 31 ∗ seg (pos false false c) 0 31 ∗ seg (tokF false c) 0 62))

/-- What it waits for in all. -/
def creds (c : Dev nD) : sProp 𝕄 :=
  iprop(cred (tallyAt (barCell c) 0 2) ∗ seg (comeF (F := F) true c) 0 62 ∗ seg (comeF (F := F) false c) 0 62)

/-- What a device holds at launch beside its buffers: the shared records, its tokens and its credits. -/
def start (c : Dev nD) : sProp 𝕄 := iprop((∃ K, world m ρ K ∗ lin c) ∗ creds c)

/-- The landing buffers, whatever is in them. -/
def bufs (c : Dev nD) : sProp 𝕄 :=
  iprop((∃ f : Buf (Elt F) (cmLoc true c), cmLoc true c ↦{fullShare} f) ∗ (∃ f : Buf (Elt F) (cmLoc false c), cmLoc false c ↦{fullShare} f))

/-- The semaphores of one side and direction at zero. -/
def zeros (rv b : Bool) (c : Dev nD) : sProp 𝕄 := bigSep Finset.univ fun s : Fin 31 => semVal (kcell (c, some (rv, b, s))) 0

/-- What the body starts from, -/
def Φ₀ (c : Dev nD) : sProp 𝕄 := iprop(start m ρ c ∗ bufs c)
/-- and what it ends with: its counters at zero and its buffers back. -/
def Φ₁ (c : Dev nD) : sProp 𝕄 :=
  iprop(bufs (F := F) c ∗ (zeros true true c ∗ zeros false true c ∗ zeros true false c ∗ zeros false false c) ∗ semVal (barCell c) 0)

/-- What a device's output buffer holds at the end. -/
def outAt (c : Dev nD) : (cc0_stg2_0 : Ref sig .tc).ty.Contents (Elt F) := k0_pay1 (Zf m ρ c)

set_option maxHeartbeats 800000 in
/-- The body on device `c`. -/
theorem wp_body (c : Dev nD) (W : Waits sig ℕ) (f : (cc0_stg2_0 : Ref sig .tc).ty.Contents (Elt F)) (Q : PUnit → sProp 𝕄) :
    iprop(Φ₀ m ρ c ∗ owes (c : Thread nD τ) (O₀ c) W
        ∗ pts c cc0_stg0_0 (As m ρ c) ∗ pts c cc0_stg1_0 (Bs m ρ c) ∗ pts c cc0_stg2_0 f)
      ⊢ iprop(((Φ₁ (F := F) c ∗ (∃ W, owes (c : Thread nD τ) 0 W)
          ∗ pts c cc0_stg0_0 (As m ρ c) ∗ pts c cc0_stg1_0 (Bs m ρ c) ∗ pts c cc0_stg2_0 (outAt m ρ c)) -∗ Q ⟨⟩)
        -∗ WP c (prog X) Q) := by
  unfold prog Φ₀ start lin creds bufs
  unfold WP
  rw [wp_deviceId]
  iintro ⟨⟨⟨⟨%K, #HW, Hat, Ht, Ht', ⟨Hr, Hd, Hk⟩, ⟨Hr', Hd', Hk'⟩⟩, Hcb, Hcc, Hcc'⟩, Hs, Hs'⟩, HO, Ha, Hb, Ho⟩ HQ
  ihave Hs := (cm_split true c) $$ Hs
  ihave Hs' := (cm_split false c) $$ Hs'
  iapply (wp_meet m ρ K c W) $$ [Hat Ht Ht' Hcb Hs Hs' HO]
  · isplitr; · iexact HW
    isplitl [Hat]; · iexact Hat
    isplitl [Ht]; · iexact Ht
    isplitl [Ht']; · iexact Ht'
    isplitl [Hcb]; · iexact Hcb
    isplitl [Hs]; · iexact Hs
    isplitl [Hs']; · iexact Hs'
    iexact HO
  iintro ⟨Hat, Hp, Hp', HO⟩
  iapply (wp_product m ρ c f) $$ [Ha Hb Ho]
  · isplitl [Ha]; · iexact Ha
    isplitl [Hb]; · iexact Hb
    iexact Ho
  iintro ⟨Ha, Hb, Ho⟩
  ihave Ho := (Entails.of_eq (owns_whole (c : Thread nD τ) cc0_stg2_0 fullShare (zs m ρ c)).symm) $$ Ho
  ihave Ho := (out_split c (zs m ρ c) (freshF m ρ · c) (fun b k => rfl)) $$ Ho
  icases Ho with ⟨Hf, Hf'⟩
  iapply (at_ring m ρ K c) $$ [Hk Hk' Hp Hp' Hf Hf' Hcc Hcc' Hr Hr' Hd Hd' HO]
  · isplitr; · iexact HW
    unfold At Mid owingB
    isplitl [Hk Hp Hf Hcc Hr Hd]
    · iapply (dir_enter m ρ true c)
      isplitl [Hk]; · iexact Hk
      isplitl [Hp]; · iexact Hp
      isplitl [Hf]; · iexact Hf
      isplitl [Hcc]; · iexact Hcc
      isplitl [Hr]; · iexact Hr
      iexact Hd
    isplitl [Hk' Hp' Hf' Hcc' Hr' Hd']
    · iapply (dir_enter m ρ false c)
      isplitl [Hk']; · iexact Hk'
      isplitl [Hp']; · iexact Hp'
      isplitl [Hf']; · iexact Hf'
      isplitl [Hcc']; · iexact Hcc'
      isplitl [Hr']; · iexact Hr'
      iexact Hd'
    iexact HO
  iintro H
  unfold At Mid owingB
  icases H with ⟨H, H', HO⟩
  ihave H := (dir_end m ρ true c) $$ H
  ihave H' := (show (Dir m ρ (!true) c 62 62 62 62 62 : sProp 𝕄) ⊢ _ from dir_end m ρ false c) $$ H'
  icases H with ⟨Ho, Hs, Hr, Hd⟩
  icases H' with ⟨Ho', Hs', Hr', Hd'⟩
  ihave Ho := (out_join c (Zf m ρ c) (curF m ρ · c) (fun b k h1 h2 => by
    unfold curF; exact congrArg (piece b c k) (funext fun j => (Zf_emb m ρ b c h1 h2 j).symm))) $$ [Ho Ho']
  · isplitl [Ho]; · iexact Ho
    iexact Ho'
  ihave Ho := (Entails.of_eq (owns_whole (c : Thread nD τ) cc0_stg2_0 fullShare (Zf m ρ c))) $$ Ho
  iapply (wp_activate c (Zf m ρ c)) $$ Ho
  iintro Ho
  unfold WP
  rw [wp_ret]
  imod (close_side m ρ K true true c) $$ [Hr] with Hr
  · isplitr; · iexact HW
    iexact Hr
  imod (close_side m ρ K false true c) $$ [Hd] with Hd
  · isplitr; · iexact HW
    iexact Hd
  imod (close_side m ρ K true false c) $$ [Hr'] with Hr'
  · isplitr; · iexact HW
    iexact Hr'
  imod (close_side m ρ K false false c) $$ [Hd'] with Hd'
  · isplitr; · iexact HW
    iexact Hd'
  imod (close_bar m ρ K c) $$ [Hat] with Hat
  · isplitr; · iexact HW
    iexact Hat
  imodintro
  iapply HQ
  unfold Φ₁ bufs zeros outAt
  isplitl [Hs Hs' Hr Hr' Hd Hd' Hat]
  · isplitl [Hs Hs']
    · isplitl [Hs]; · iapply (cm_join true c); iexact Hs
      iapply (cm_join false c); iexact Hs'
    isplitl [Hr Hr' Hd Hd']
    · isplitl [Hr]; · iexact Hr
      isplitl [Hd]; · iexact Hd
      isplitl [Hr']; · iexact Hr'
      iexact Hd'
    iexact Hat
  isplitl [HO]
  · unfold owing; rw [Ow_end]; iexact HO
  isplitl [Ha]; · iexact Ha
  isplitl [Hb]; · iexact Hb
  iexact Ho

/-! ## The pipeline's data -/

/-- The pipeline's data: the arrays as launched, and what the body leaves in each staging buffer. -/
def dats (_ : Fin 1) (c : Dev nD) : Dat τ (Elt F) ℕ ℕ UU ℕ cfg0 c where
  A w := (s₀ m ρ).mem ((cfg0.win w).arr.view.loc (c : Thread nD τ))
  after w _ := match w with
    | ⟨0, _⟩ => As m ρ c
    | ⟨1, _⟩ => Bs m ρ c
    | ⟨2, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

/-- A staging buffer as the pipeline holds it. -/
abbrev stg (c : Dev nD) (b : Ref sig .tc) (v : b.ty.Contents (Elt F)) : sProp 𝕄 :=
  owns (c : Thread nD τ) (Memref.whole b) fullShare v

set_option maxRecDepth 1000000 in
/-- The pipeline's obligation of the body. -/
theorem body_obligation (c : Dev nD) : BodyObligation (dats (F := F) m ρ 0 c) (defs₀ (F := F)) 𝒱₀ 0 Set.univ := fun t => by
  rw [fin_N0 t]
  rw [bigSep_W0, bigSep_W0]
  show iprop(Φ₀ m ρ c ∗ (dats m ρ 0 c).owesAt 0 t0_0.castSucc
      ∗ (∃ d, stg c cc0_stg0_0 ((dats m ρ 0 c).before (0 : Fin 3) t0_0 d))
      ∗ (∃ d, stg c cc0_stg1_0 ((dats m ρ 0 c).before (1 : Fin 3) t0_0 d))
      ∗ (∃ d, stg c cc0_stg2_0 ((dats m ρ 0 c).before (2 : Fin 3) t0_0 d)))
    ⊢ WP c (bodyAt0 t0_0) fun _ => iprop(Φ₁ c ∗ (dats m ρ 0 c).owesAt 0 t0_0.succ
      ∗ stg c cc0_stg0_0 (As m ρ c) ∗ stg c cc0_stg1_0 (Bs m ρ c) ∗ stg c cc0_stg2_0 (outAt m ρ c))
  rw [show (bodyAt0 t0_0 : Body F) = prog X from cc0_body_eq_prog _ _ _ _ _ _ _ _ _ _ _ _ _ _]
  unfold Dat.owesAt Pipeline.owesWithin
  iintro ⟨HΦ, ⟨%W, %hW, HO⟩, ⟨%d0, Ha⟩, ⟨%d1, Hb⟩, ⟨%d2, Ho⟩⟩
  have ha : (dats m ρ 0 c).before (0 : Fin 3) t0_0 d0 = As m ρ c := by unfold Dat.before; rw [if_pos (fetch0_0 t0_0)]; rfl
  have hb : (dats m ρ 0 c).before (1 : Fin 3) t0_0 d1 = Bs m ρ c := by unfold Dat.before; rw [if_pos (fetch0_1 t0_0)]; rfl
  rw [ha, hb]
  simp only [owns_whole]
  iapply (wp_body m ρ c W _ _) $$ [HΦ HO Ha Hb Ho]
  · isplitl [HΦ]; · iexact HΦ
    isplitl [HO]; · iexact HO
    isplitl [Ha]; · iexact Ha
    isplitl [Hb]; · iexact Hb
    iexact Ho
  iintro ⟨HΦ, ⟨%W', HO⟩, Ha, Hb, Ho⟩
  isplitl [HΦ]; · iexact HΦ
  isplitl [HO]
  · iexists W'
    isplitr; · ipureintro; exact fun _ _ => Or.inl trivial
    iexact HO
  isplitl [Ha]; · iexact Ha
  isplitl [Hb]; · iexact Hb
  iexact Ho

end Cert.RingProof

end
-- ==== Proof.Launch.lean ====
/-
The launch: the ring's cells, tokens and credits dealt out, and the run of the whole program.
-/
module

public import proofs.«01_k».proof.Proof.Body
public import Idealize.ShloMosaic.Lib.Pipeline.CollectiveSegs

@[expose] public section

noncomputable section

namespace Cert.RingProof

open Cert.KernelIdeal Cert.KernelIdeal.Gen
open Idealize.ShloMosaic Idealize.ShloMosaic.Pipeline
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ) (ρ : Dev nD → PrngReg)
variable (K : Dev nD × CK → ℕ)

/-! ## The semaphores -/

/-- The kernel's own semaphores: those of its transfers. -/
abbrev osem (q : Bool × Bool × Fin 31) : SemLoc sig := csem (some q)

/-- The staging copies' semaphores are not the ring's. -/
theorem dec_stage : ∀ (w : Fin cfg0.W) (s : Fin (cfg0.spec w).nbuf), dec (.dma ((cfg0.spec w).sem s)) = none := by decide

/-- The kernel's own semaphores are none of the pipeline's. -/
theorem ownSemFacts : Pipeline.OwnSemFacts cfg0.spec osem where
  isScoped := by decide
  inj := fun q q' h => Option.some.inj (csem_injective h)
  disj := fun q w s h => by
    have h1 := congrArg dec h
    rw [dec_csem] at h1
    rw [dec_stage w s] at h1; cases h1

/-- The cells of a device: the barrier's, and those of each side and direction. -/
theorem bigSep_ck (Φ : CK → sProp 𝕄) : bigSep Finset.univ Φ = iprop(Φ none ∗ bigSep Finset.univ fun q => Φ (some q)) := by
  have h : (Finset.univ : Finset CK) = insert none (Finset.univ.map Function.Embedding.some) := by
    ext x; cases x <;> simp
  rw [h, bigSep_insert (by simp), bigSep_map]; rfl

/-- Everything of a direction and side, dealt out. -/
theorem bigSep_side (Φ : Bool × Bool × Fin 31 → sProp 𝕄) : bigSep Finset.univ Φ =
    iprop((bigSep Finset.univ (fun s => Φ (true, true, s)) ∗ bigSep Finset.univ fun s => Φ (true, false, s))
      ∗ (bigSep Finset.univ (fun s => Φ (false, true, s)) ∗ bigSep Finset.univ fun s => Φ (false, false, s))) := by
  rw [bigSep_univ_prod, bigSep_dir, bigSep_univ_prod, bigSep_dir, bigSep_univ_prod, bigSep_dir]

/-- The own semaphores' counters, as cells, -/
theorem ownSems0_eq (c : Dev nD) :
    (Pipeline.ownSems0 (Ix := ℕ) (Name := ℕ) (U := UU) (Lvl := ℕ) (Val := Elt F) (τ := τ) osem c : sProp 𝕄)
      = iprop((zeros true true c ∗ zeros true false c) ∗ (zeros false true c ∗ zeros false false c)) := by
  unfold Pipeline.ownSems0; rw [bigSep_side]; rfl
/-- and the barrier's. -/
theorem unscopedSems0_eq (c : Dev nD) : (unscopedSems0 c : sProp 𝕄) = semVal (barCell c) 0 := by
  unfold unscopedSems0; rw [bigSep_eq_bigSepL_of_eq [SemLoc.reg barrierSem] (by decide) (by decide)]; rfl

/-- All of a device's semaphores at zero. -/
theorem sems0 (c : Dev nD) :
    iprop(Pipeline.ownSems0 (Ix := ℕ) (Name := ℕ) (U := UU) (Lvl := ℕ) (Val := Elt F) (τ := τ) osem c ∗ unscopedSems0 c)
      ⊢ (bigSep Finset.univ fun k : CK => semVal (kcell (c, k)) 0 : sProp 𝕄) := by
  rw [unscopedSems0_eq, bigSep_ck]
  unfold Pipeline.ownSems0
  iintro ⟨H, HB⟩
  isplitl [HB]; · iexact HB
  iexact H

/-! ## The ring's ghost state -/

/-- The cells that the ring uses, -/
def ringCells : Finset (GSem nD τ sig) := Finset.univ.map ⟨kcell, kcell_injective⟩

/-- The duties of a device's cells: the barrier's two, and one for each step, side and direction. -/
abbrev TK : Type := Bool ⊕ (Bool × Bool × Fin 62)
/-- the cell, round and side of each token, -/
abbrev tokOf (x : Dev nD × TK) : GSem nD τ sig × ℕ × Bool :=
  match x.2 with
  | .inl d => (barCell x.1, 0, d)
  | .inr q => (kcell (x.1, some (q.1, q.2.1, fs q.2.2.val)), q.2.2.val / 31, false)

/-- all of them different, -/
theorem tokOf_injective : Function.Injective tokOf := by
  rintro ⟨c, t⟩ ⟨c', t'⟩ h
  have h1 := congrArg (fun x : GSem nD τ sig × ℕ × Bool => x.1) h
  have h2 := congrArg (fun x : GSem nD τ sig × ℕ × Bool => x.2) h
  rcases t with d | ⟨rv, b, j⟩ <;> rcases t' with d' | ⟨rv', b', j'⟩
  · have e := Prod.mk.inj (kcell_injective h1)
    have e2 : d = d' := (Prod.mk.inj h2).2
    exact Prod.ext e.1 (congrArg Sum.inl e2)
  · exact absurd (Prod.mk.inj (kcell_injective h1)).2 (by simp)
  · exact absurd (Prod.mk.inj (kcell_injective h1)).2 (by simp)
  · have e := Prod.mk.inj (kcell_injective h1)
    have e2 : j.val / 31 = j'.val / 31 := (Prod.mk.inj h2).1
    have e3 := Option.some.inj e.2
    have e4 := Prod.mk.inj e3
    have e5 := Prod.mk.inj e4.2
    have e6 : j.val % 31 = j'.val % 31 := congrArg Fin.val e5.2
    have e7 : j = j' := Fin.ext (by omega)
    exact Prod.ext e.1 (congrArg Sum.inr (Prod.ext e4.1 (Prod.ext e5.1 e7)))

/-- and the tokens. -/
def ringToks : Finset (GSem nD τ sig × ℕ × Bool) := Finset.univ.map ⟨tokOf, tokOf_injective⟩

/-- The ghost state at launch. -/
def u₀ : UU :=
  (initOf (Pipeline.cells cfgs cellOf_inj) (Pipeline.launchToks cfgs cellOf_inj), initOf ringCells ringToks)

/-- The tokens of all steps of one side and direction. -/
def sideToks (rv b : Bool) (c : Dev nD) : sProp 𝕄 :=
  seg (fun j => dutyTok ER (kcell (c, some (rv, b, fs j))) (j / 31) false) 0 62

/-- The tokens of a device's own cells, -/
def toks (c : Dev nD) : sProp 𝕄 :=
  iprop((dutyTok ER (barCell c) 0 true ∗ dutyTok ER (barCell c) 0 false)
    ∗ (sideToks true true c ∗ sideToks true false c) ∗ (sideToks false true c ∗ sideToks false false c))
/-- and those of the duties it pays. -/
def payToks (c : Dev nD) : sProp 𝕄 :=
  iprop((dutyTok ER (barCell (up true c)) 0 true ∗ dutyTok ER (barCell (up false c)) 0 false)
    ∗ seg (tokF true c) 0 62 ∗ seg (tokF false c) 0 62)

/-- A direction's tokens of a side, over the steps. -/
theorem sideToks_fin (rv b : Bool) (c : Dev nD) : (sideToks rv b c : sProp 𝕄) =
    bigSep Finset.univ fun j : Fin 62 => dutyTok ER (kcell (c, some (rv, b, fs j.val))) (j.val / 31) false := by
  have h := fin_seg (F := F) (fun j => dutyTok ER (kcell (c, some (rv, b, fs j))) (j / 31) false) 0 62
  simp only [Nat.zero_add] at h
  exact h.symm

/-- A device's tokens by direction and side. -/
theorem toks_eq (c : Dev nD) :
    (bigSep Finset.univ fun t : TK => (dutyTok ER (tokOf (c, t)).1 (tokOf (c, t)).2.1 (tokOf (c, t)).2.2 : sProp 𝕄)) = toks c := by
  unfold toks
  rw [BI.bigSep_univ_sum, bigSep_dir, bigSep_univ_prod, bigSep_dir, bigSep_univ_prod, bigSep_dir, bigSep_univ_prod, bigSep_dir,
    sideToks_fin, sideToks_fin, sideToks_fin, sideToks_fin]
  rfl

/-- Around the ring. -/
def ringE (b : Bool) : Dev nD ≃ Dev nD := ⟨dn b, up b, up_dn b, dn_up b⟩

/-- A direction's tokens, as they are paid with. -/
theorem pay_side (b : Bool) (c : Dev nD) :
    (seg (tokF (F := F) b c) 0 62 : sProp 𝕄) = iprop(sideToks false b c ∗ sideToks true b (dn b c)) := by
  unfold seg tokF sideToks seg
  rw [bigSep_sep']

/-- The tokens dealt around the ring to those who pay. -/
theorem toks_around : (bigSep Finset.univ fun c : Dev nD => (toks c : sProp 𝕄)) ⊢ bigSep Finset.univ fun c : Dev nD => payToks c := by
  unfold payToks
  simp only [pay_side]
  unfold toks
  simp only [bigSep_sep']
  rw [bigSep_univ_equiv (ringE true).symm (fun c : Dev nD => (dutyTok ER (barCell c) 0 true : sProp 𝕄)),
    bigSep_univ_equiv (ringE false).symm (fun c : Dev nD => (dutyTok ER (barCell c) 0 false : sProp 𝕄)),
    bigSep_univ_equiv (ringE true) (fun c : Dev nD => (sideToks true true c : sProp 𝕄)),
    bigSep_univ_equiv (ringE false) (fun c : Dev nD => (sideToks true false c : sProp 𝕄))]
  iintro ⟨⟨H1, H2⟩, ⟨H3, H4⟩, ⟨H5, H6⟩⟩
  isplitl [H1 H2]
  · isplitl [H1]; · iexact H1
    iexact H2
  isplitl [H3 H5]
  · isplitl [H5]; · iexact H5
    iexact H3
  isplitl [H6]; · iexact H6
  iexact H4

/-- What each device is dealt at launch, -/
def G (c : Dev nD) : sProp 𝕄 :=
  iprop((bigSep Finset.univ fun k : CK => roundState ER (ringRd m ρ) (kcell (c, k)) 0)
    ∗ (bigSep Finset.univ fun k : CK => atPos ER (kcell (c, k)) 0 ∅ 0) ∗ (bigSep Finset.univ fun k : CK => reached ER (kcell (c, k)) 0)
    ∗ toks c)

/-- what all know once the cells are allocated, -/
def records : sProp 𝕄 :=
  iprop((bigSep Finset.univ fun ck : Dev nD × CK => cellInv ER (ringRd m ρ) (K ck) (kcell ck))
    ∗ (bigSep Finset.univ fun ck : Dev nD × CK => reached ER (kcell ck) 0))
/-- The records may be copied. -/
instance records_persistent : BI.Persistent (records m ρ K) := by unfold records; infer_instance

/-- and what each device has then. -/
def G' (c : Dev nD) : sProp 𝕄 := iprop(∃ K, records m ρ K ∗ lin c)

/-- The ghost state at launch is what the devices need. -/
theorem fund_ring : BI.own (ER (initOf ringCells ringToks)) ⊢ (|==> bigSep Finset.univ (G m ρ) : sProp 𝕄) := by
  have hX (Φ : GSem nD τ sig → sProp 𝕄) : bigSep ringCells Φ = bigSep Finset.univ fun c : Dev nD => bigSep Finset.univ fun k : CK => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => toks_eq c
  iintro HX
  imod (Rounds.fund ER (ringRd m ρ) ringCells ringToks) $$ HX with ⟨Hst, Hr, Hat, Htok⟩
  imodintro
  ihave Hst := (Entails.of_eq (hX fun g => roundState ER (ringRd m ρ) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  isplitl [Hst]; · iexact Hst
  isplitl [Hat]; · iexact Hat
  isplitl [Hr]; · iexact Hr
  iexact Htok

/-- A device's cells allocated. -/
theorem core_alloc (c : Dev nD) :
    iprop(Pipeline.ownSems0 (Ix := ℕ) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (ringRd m ρ) κ (kcell (c, k))))
          ∗ (bigSep Finset.univ fun k : CK => reached ER (kcell (c, k)) 0) ∗ (bigSep Finset.univ fun k : CK => atPos ER (kcell (c, k)) 0 ∅ 0)
          ∗ toks c) := by
  unfold G
  iintro ⟨Hos, Hus, Hst, Hat, Hr, Htok⟩
  ihave Hv := (sems0 (F := F) c) $$ [Hos Hus]
  · isplitl [Hos] <;> iassumption
  imod (show iprop((bigSep Finset.univ fun k : CK => semVal (kcell (c, k)) 0) ∗ bigSep Finset.univ fun k : CK => roundState ER (ringRd m ρ) (kcell (c, k)) 0)
      ⊢ (|={Set.univ}=> bigSep Finset.univ fun k => iprop(∃ κ : ℕ, cellInv ER (ringRd m ρ) κ (kcell (c, k))) : sProp 𝕄) from by
        rw [← bigSep_sep']
        exact (bigSep_mono fun k _ => (Rounds.body_intro ER (ringRd m ρ) (kcell (c, k))).trans inv_alloc).trans (bigSep_fupd _ _)) $$ [Hv Hst] with Hinv
  · isplitl [Hv] <;> iassumption
  imodintro
  isplitl [Hinv]; · iexact Hinv
  isplitl [Hr]; · iexact Hr
  isplitl [Hat]; · iexact Hat
  iexact Htok

/-- Every cell starts in its first round. -/
theorem rec_reached (ck : Dev nD × CK) : records m ρ K ⊢ (reached ER (kcell ck) 0 : sProp 𝕄) := by
  have h : (bigSep Finset.univ fun ck : Dev nD × CK => (reached ER (kcell ck) 0 : sProp 𝕄)) ⊢ reached ER (kcell ck) 0 :=
    bigSep_elim (Finset.mem_univ ck)
  unfold records
  iintro ⟨-, H⟩
  iapply h; iexact H

/-- A device's positions in the cells of one side and direction. -/
theorem pos_intro (rv b : Bool) (c : Dev nD) :
    iprop(records m ρ K ∗ bigSep Finset.univ fun s : Fin 31 => atPos ER (kcell (c, some (rv, b, s))) 0 ∅ 0)
      ⊢ (seg (pos rv b c) 0 31 : sProp 𝕄) := by
  rw [show seg (pos (F := F) rv b c) 0 31 = seg (pos (F := F) rv b c) 0 (0 + 31) from rfl, ← fin_seg]
  refine family_with fun s _ => ?_
  have hs : fs (0 + s.val) = s := Fin.ext (by show (0 + s.val) % 31 = s.val; have := s.isLt; omega)
  have hd : (0 + s.val) / 31 = 0 := by have := s.isLt; omega
  unfold pos
  rw [hs, hd]
  iintro ⟨#HW, H⟩
  isplitl [H]; · iexact H
  iapply (rec_reached m ρ K (c, some (rv, b, s))); iexact HW

/-- A device's tokens, dealt to those who spend them. -/
theorem lin_intro (c : Dev nD) :
    iprop(records m ρ K ∗ (bigSep Finset.univ fun k : CK => atPos ER (kcell (c, k)) 0 ∅ 0) ∗ payToks c) ⊢ G' m ρ c := by
  rw [bigSep_ck, bigSep_side]
  unfold G' lin payToks
  iintro ⟨#HR, ⟨HB, ⟨H1, H2⟩, ⟨H3, H4⟩⟩, ⟨⟨Ht, Ht'⟩, Hk, Hk'⟩⟩
  iexists K
  isplitr; · iexact HR
  isplitl [HB]; · iexact HB
  isplitl [Ht]; · iexact Ht
  isplitl [Ht']; · iexact Ht'
  isplitl [H1 H3 Hk]
  · isplitl [H1]
    · iapply (pos_intro m ρ K true true c)
      isplitr; · iexact HR
      iexact H1
    isplitl [H3]
    · iapply (pos_intro m ρ K false true c)
      isplitr; · iexact HR
      iexact H3
    iexact Hk
  isplitl [H2]
  · iapply (pos_intro m ρ K true false c)
    isplitr; · iexact HR
    iexact H2
  isplitl [H4]
  · iapply (pos_intro m ρ K false false c)
    isplitr; · iexact HR
    iexact H4
  iexact Hk'

/-- What the devices have, regrouped: what all know, and what each needs. -/
theorem regroup :
    (bigSep Finset.univ fun c : Dev nD => iprop((bigSep Finset.univ fun k => iprop(∃ κ : ℕ, cellInv ER (ringRd m ρ) κ (kcell (c, k))))
          ∗ (bigSep Finset.univ fun k : CK => reached ER (kcell (c, k)) 0) ∗ (bigSep Finset.univ fun k : CK => atPos ER (kcell (c, k)) 0 ∅ 0)
          ∗ toks c) : sProp 𝕄)
      ⊢ bigSep Finset.univ (G' m ρ) := by
  rw [bigSep_sep', bigSep_sep', bigSep_sep', ← bigSep_univ_prod (fun ck : Dev nD × CK => iprop(∃ κ : ℕ, cellInv ER (ringRd m ρ) κ (kcell ck))),
    ← bigSep_univ_prod (fun ck : Dev nD × CK => (reached ER (kcell ck) 0 : sProp 𝕄))]
  iintro ⟨HI, #HR, Hat, Htok⟩
  ihave HK := (BI.bigSep_exists_pi Finset.univ (fun (ck : Dev nD × CK) (κ : ℕ) => (cellInv ER (ringRd m ρ) κ (kcell ck) : sProp 𝕄))) $$ HI
  icases HK with ⟨%K, #HI⟩
  ihave Htk := (toks_around (F := F)) $$ Htok
  iapply (family_with (R := records m ρ K) fun c _ => lin_intro m ρ K c)
  isplitr
  · unfold records
    isplitr; · iexact HI
    iexact HR
  rw [bigSep_sep']
  isplitl [Hat]; · iexact Hat
  iexact Htk

/-- All the devices' counters and ghost state, made into cells with their records and tokens. -/
theorem glob : (bigSep Finset.univ fun c => iprop(Pipeline.ownSems0 (Ix := ℕ) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The launch credit -/

/-- The credits of a direction, -/
theorem cred_dir (b : Bool) (c : Dev nD) :
    (Pipeline.launchCred (fun d => OwD b d 0) c : sProp 𝕄) ⊢ seg (comeF (F := F) b c) 0 62 := by
  unfold OwD
  rw [Pipeline.launchCred_sum]
  unfold seg comeF
  exact bigSep_mono fun j _ => Pipeline.launchCred_tallyAt (csem (some (true, b, fs j))) (dn b) (up b) (dn_up b) (up_dn b) (j / 31) N c

/-- and of the barrier. -/
theorem cred_bar (b : Bool) (c : Dev nD) :
    (Pipeline.launchCred (fun d => tallyAt (barCell (up b d)) 0 1) c : sProp 𝕄) ⊢ cred (tallyAt (barCell c) 0 1) :=
  Pipeline.launchCred_tallyAt (csem none) (up b) (dn b) (up_dn b) (dn_up b) 0 1 c

/-- A device's credits. -/
theorem creds_intro (c : Dev nD) : (Pipeline.launchCred O₀ c : sProp 𝕄) ⊢ creds c := by
  have e : (O₀ : Dev nD → CellTallies nD τ sig ℕ) = fun d =>
      (fun d => (fun d => (fun d => OwD true d 0) d + (fun d => OwD false d 0) d) d + (fun d => tallyAt (barCell (up false d)) 0 1) d) d
        + (fun d => tallyAt (barCell (up true d)) 0 1) d := rfl
  rw [e, Pipeline.launchCred_add, Pipeline.launchCred_add, Pipeline.launchCred_add]
  unfold creds
  iintro ⟨⟨⟨H1, H2⟩, H3⟩, H4⟩
  isplitl [H3 H4]
  · rw [show (tallyAt (barCell c) 0 2 : CellTallies nD τ sig ℕ) = tallyAt (barCell c) 0 1 + tallyAt (barCell c) 0 1 from (tallyAt_add (barCell c) 0 1 1).symm]
    iapply (cred_add _ _).2
    isplitl [H3]
    · iapply (cred_bar false c); iexact H3
    · iapply (cred_bar true c); iexact H4
  isplitl [H1]
  · iapply (cred_dir true c); iexact H1
  · iapply (cred_dir false c); iexact H2

/-! ## The launch theorem's side conditions -/

/-- Every array is held whole. -/
theorem share_eq (c : Dev nD) (w : Fin cfg0.W) : (dats m ρ 0 c).share w = fullShare := by unfold Dat.share; split <;> rfl

/-- What the launch deals to a device is what it starts from, -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, #Hlev, Hcr, -, HG⟩
  ihave Hc := (creds_intro (F := F) c) $$ Hcr
  imodintro
  unfold start G' records world
  icases HG with ⟨%K, ⟨#HI, #HR⟩, HL⟩
  isplitl
  · isplitl [HL]
    · iexists K
      isplitr
      · isplitr; · iexact HI
        isplitr; · iexact HR
        iexact Hlev
      iexact HL
    iexact Hc
  · iempintro

/-- and with its scratch buffers what the body starts from. -/
theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ bufs
  iintro ⟨Hs, -, H, H'⟩
  isplitl [Hs]; · iexact Hs
  isplitl [H]; · iexact H
  iexact H'

/-- What the body ends with gives the counters and the scratch buffers back. -/
theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, ownSems0_eq, unscopedSems0_eq]
  unfold Φ₁ bufs
  iintro ⟨⟨H, H'⟩, ⟨H1, H2, H3, H4⟩, HB⟩
  isplitl [HB]; · iexact HB
  isplitl [H1 H2 H3 H4]
  · isplitl [H1 H3]
    · isplitl [H1]; · iexact H1
      iexact H3
    isplitl [H2]; · iexact H2
    iexact H4
  isplitl [H]; · iexact H
  iexact H'

/-- The pipeline's own waits are below everything owed. -/
theorem waits (c : Dev nD) : (levAts L lv : sProp 𝕄) ⊢ Pipeline.cellsWaits cfgs (dats m ρ) 0 0 c :=
  Pipeline.cellsWaits_intro cfgs (dats m ρ) 0 0 c fun w s t =>
    mayWait_stage c _ (by revert s; revert w; decide) _ (by
      rcases t with ⟨_ | _, ht⟩
      · exact Or.inl rfl
      · exact Or.inr rfl)

/-! ## The run -/

/-- What a window's array holds at the end. -/
def finalA (c : Dev nD) (w : Fin cfg0.W) : Buf (Elt F) ((cfg0.win w).arr.view.loc (c : Thread nD τ)) := (dats m ρ 0 c).arrAt w cfg0.N

/-- The arrays at the end. -/
def QC : PUnit × MemSt nD τ sig (Elt F) → Prop := fun r =>
  ∀ c : Dev nD, ∀ w : Fin cfg0.W, r.2.mem ((cfg0.win w).arr.view.loc (c : Thread nD τ)) = finalA m ρ c w

set_option maxRecDepth 1000000 in
/-- The program on its 32 devices, from any memory with its counters at zero, for any float values: it terminates under any
    fair schedule, with its arrays at the contents computed and all counters at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) 0 cellOf_inj (0 : Fin 1)
    winFacts0.to₀ ownSemFacts (Pipeline.PreFacts.none _) EP defs₀ 𝒱₀ m ρ main
    (hmain := fun _ => rfl)
    (hbody := body_obligation m ρ) (hne := fun w => block_pos0 w) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ring m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The arguments' arrays hold what they held. -/
theorem finalA_a (c : Dev nD) : finalA m ρ c (0 : Fin 3) = (s₀ m ρ).mem (win0_0.arr.view.loc (c : Thread nD τ)) :=
  (dats (F := F) m ρ 0 c).arrAt_in (0 : Fin 3) rfl _
/-- both of them. -/
theorem finalA_b (c : Dev nD) : finalA m ρ c (1 : Fin 3) = (s₀ m ρ).mem (win0_1.arr.view.loc (c : Thread nD τ)) :=
  (dats (F := F) m ρ 0 c).arrAt_in (1 : Fin 3) rfl _

end Cert.RingProof

end
-- ==== Proof.Value.lean ====
/-
The values at exact arithmetic: every block of the kernel's result is the sum of all devices' products, that sum is
the whole product, and the kernel's activation of it is the reference's.
-/
module

public import proofs.«01_k».proof.Proof.Launch
public import proofs.«01_k».proof.Proof.Gen.ReferenceIdeal.Run
public import Idealize.ShloMosaic.Lib.Layout
public import Idealize.ShloMosaic.Lib.Pointwise
public import Idealize.ShloMosaic.Lib.Pipeline.ValueKit.Geometry

@[expose] public section

noncomputable section

namespace Cert.RingProof

open Cert.KernelIdeal Cert.KernelIdeal.Gen
open Idealize.ShloMosaic Idealize.ShloMosaic.Pipeline
open Idealize.ShloMosaic.TcCoe
open Idealize.SL.Sem

section Any

variable {F : FTy → Type} [FloatOps F]
variable (m : (ℓ : Loc nD τ sig) → Buf (Elt F) ℓ) (ρ : Dev nD → PrngReg)

/-- The result's array ends at what the body left in its staging buffer. -/
theorem finalA_o (c : Dev nD) : finalA m ρ c (2 : Fin 3) = outAt m ρ c :=
  (dats m ρ 0 c).arrAt_eq_of_after_last (2 : Fin 3) t0_0 (by decide +kernel) (outAt m ρ c) fun j => rfl

/-- The staged left factor is the device's own, -/
theorem As_eq (c : Dev nD) : As m ρ c = m ((c : Thread nD τ).loc main_arg0) :=
  Memref.read_access_unit_zero (Elt F) main_arg0 (funext fun a => by fin_cases a <;> decide) (fun a => by fin_cases a <;> decide) _
/-- and so is the right one. -/
theorem Bs_eq (c : Dev nD) : Bs m ρ c = m ((c : Thread nD τ).loc main_arg1) :=
  Memref.read_access_unit_zero (Elt F) main_arg1 (funext fun a => by fin_cases a <;> decide) (fun a => by fin_cases a <;> decide) _

end Any

/-! ## The ring's sums -/

/-- Where element `j` of the block of step `k` lies in the result. -/
def spot (b : Bool) (c : Dev nD) (k : ℕ) (j : S24x1536.Idx) : S1536x1536.Idx := (rowRect (pOff b c k) (pOff_in b c k)).emb j

/-- A block lies where the device before had it a step earlier. -/
theorem spot_up (b : Bool) (c : Dev nD) (k : ℕ) (j : S24x1536.Idx) : spot b (up b c) k j = spot b c (k + 1) j := by
  have h := pOff_dn b (up b c) k
  rw [dn_up] at h
  unfold spot
  funext a
  apply Fin.ext
  rw [Rect.emb_apply, Rect.emb_apply]
  exact congrArg (fun o : Fin 2 → ℕ => o a + 1 * (j a).val) h.symm

/-- The device `t` places before in direction `b`. -/
def back (b : Bool) (c : Dev nD) (t : ℕ) : Dev nD := ⟨(c.val + (if b then 31 else 1) * t) % 32, Nat.mod_lt _ (by decide)⟩

/-- No place before is the device itself. -/
theorem back_zero (b : Bool) (c : Dev nD) : back b c 0 = c := Fin.ext (Nat.mod_eq_of_lt c.isLt)
/-- Going back from the device before is one place more. -/
theorem back_up (b : Bool) (c : Dev nD) (t : ℕ) : back b (up b c) t = back b c (t + 1) := by
  apply Fin.ext
  show ((dn (!b) c).val + _) % 32 = (c.val + _) % 32
  rw [dn_val]
  cases b <;> simp only [if_true, if_false, Bool.false_eq_true, Bool.not_true, Bool.not_false] <;> omega
/-- Going back 32 places meets every device once. -/
theorem back_bijective (b : Bool) (c : Dev nD) : Function.Bijective fun t : Fin 32 => back b c t.val := by
  refine (Finite.injective_iff_bijective).mp fun t t' h => Fin.ext ?_
  have h' : (c.val + (if b then 31 else 1) * t.val) % 32 = (c.val + (if b then 31 else 1) * t'.val) % 32 := congrArg Fin.val h
  have := t.isLt
  have := t'.isLt
  cases b <;> simp only [if_true, if_false, Bool.false_eq_true] at h' <;> omega

variable (m : (ℓ : Loc nD τ sig) → Buf (Elt Ideal) ℓ) (ρ : Dev nD → PrngReg)

/-- Two blocks added, at an element. -/
theorem plus_apply (v w : Rows Ideal) (j : S24x1536.Idx) : plus v w j = (v j + w j : EReal) := by
  unfold plus k0_pay3
  rw [shapeCast_self]
  exact congrArg (v j + ·) (congrArg w (Equiv.symm_apply_apply _ j))

/-- The sum of all devices' products, at an element. -/
def total (i : S1536x1536.Idx) : EReal := ∑ d : Dev nD, zs m ρ d i

/-- In the reduce-scatter, a block holds the sum of the products of the devices it has met. -/
theorem Cv_sum (b : Bool) (j : S24x1536.Idx) : ∀ (g : ℕ) (c : Dev nD), g ≤ 31 →
    Cv m ρ b g c j = (∑ t ∈ Finset.range (g + 1), zs m ρ (back b c t) (spot b c g j) : EReal)
  | 0, c, _ => by
    rw [Finset.sum_range_one, back_zero]; rfl
  | g + 1, c, h => by
    rw [Cv_acc m ρ b c (by omega), plus_apply, Cv_sum b j g (up b c) (by omega), Finset.sum_range_succ' _ (g + 1), back_zero, add_comm]
    refine congrArg₂ (· + ·) (Finset.sum_congr rfl fun t _ => ?_) rfl
    rw [back_up, spot_up]

/-- From its last addition on, a block holds the sum over all devices. -/
theorem Cv_total (b : Bool) (j : S24x1536.Idx) : ∀ (e : ℕ) (c : Dev nD), Cv m ρ b (31 + e) c j = total m ρ (spot b c (31 + e) j)
  | 0, c => by
    rw [Nat.add_zero, Cv_sum m ρ b j 31 c (le_refl _), Finset.sum_range]
    exact (back_bijective b c).sum_comp fun d => (zs m ρ d (spot b c 31 j) : EReal)
  | e + 1, c => by
    rw [← Nat.add_assoc, Cv_gat m ρ b c (by omega), Cv_total b j e (up b c), spot_up]

/-- The whole of what the ring leaves on a device is the sum over all devices. -/
theorem Zf_total (c : Dev nD) (i : S1536x1536.Idx) : Zf m ρ c i = total m ρ i := by
  obtain ⟨j, hj⟩ : ∃ j, spot (dirOf i) c (31 + (numOf (dirOf i) c i).val) j = i :=
    LoadRect.exists_idx_of_mem _ (mem_blk_of c i)
  have h := Zf_emb m ρ (dirOf i) c (k := 31 + (numOf (dirOf i) c i).val) (by omega) (by have := (numOf (dirOf i) c i).isLt; omega) j
  rw [Cv_total] at h
  unfold spot at hj h
  rw [hj] at h
  exact h

/-! ## The product -/

/-- A device's part of the left factor, -/
abbrev leftOf (c : Dev nD) : FVec Ideal S1536x768 .f32 := m ((c : Thread nD τ).loc main_arg0)
/-- and of the right one. -/
abbrev rightOf (c : Dev nD) : FVec Ideal S768x1536 .f32 := m ((c : Thread nD τ).loc main_arg1)

/-- A device's product, at an element. -/
theorem zs_apply (c : Dev nD) (i : S1536x1536.Idx) :
    (zs m ρ c i : EReal) = ∑ k : Fin 768, (leftOf m c (ix2 (i 0) k) * rightOf m c (ix2 k (i 1)) : EReal) := by
  unfold zs k0_pay2
  rw [As_eq, Bs_eq]
  pointwise

variable (A : FVec Ideal Cert.ReferenceIdeal.S1536x24576 .f32) (B : FVec Ideal Cert.ReferenceIdeal.S24576x1536 .f32)

/-- The whole product. -/
abbrev whole : FVec Ideal S1536x1536 .f32 :=
  Host.dotGeneral Cert.ReferenceIdeal.dot_S1536x24576_S24576x1536_S1536x1536_1_0_0_1_n_n none A B

/-- The whole product, at an element. -/
theorem whole_apply (i : S1536x1536.Idx) : (whole A B i : EReal) = ∑ k : Fin 24576, (A (ix2 (i 0) k) * B (ix2 k (i 1)) : EReal) := by
  unfold whole
  pointwise

/-- Where each device holds its columns of the left factor and its rows of the right one, the products add up to the
    whole product. -/
theorem total_eq
    (hA : ∀ c : Dev nD, leftOf m c = Layout.block ⟨2, ![1536, 768]⟩ ⟨2, ![1536, 24576]⟩ 1 32 c A)
    (hB : ∀ c : Dev nD, rightOf m c = Layout.block ⟨2, ![768, 1536]⟩ ⟨2, ![24576, 1536]⟩ 0 32 c B)
    (i : S1536x1536.Idx) : total m ρ i = whole A B i := by
  rw [whole_apply]
  unfold total
  simp only [zs_apply, hA, hB]
  rw [← Fintype.sum_prod_type']
  refine Fintype.sum_equiv (finProdFinEquiv (m := 32) (n := 768)) _ _ fun p => ?_
  refine congrArg₂ (fun x y : EReal => x * y) (congrArg A ?_) (congrArg B ?_)
  · funext a
    apply Fin.ext
    fin_cases a
    · rfl
    · show p.1.val * 768 + p.2.val = p.2.val + 768 * p.1.val
      omega
  · funext a
    apply Fin.ext
    fin_cases a
    · show p.1.val * 768 + p.2.val = p.2.val + 768 * p.1.val
      omega
    · rfl

/-! ## The activation -/

/-- The kernel's activation of the whole product is the reference's. -/
theorem activation (z : FVec Ideal S1536x1536 .f32) : k0_pay1 z
    = mulf (mulf (broadcastInDim S1536x1536 ![] Cert.ReferenceIdeal.Facts₀.bcast_S_S1536x1536 (constant Cert.ReferenceIdeal.S_ .f32 0x3F000000#32)) z)
      (addf (broadcastInDim S1536x1536 ![] Cert.ReferenceIdeal.Facts₀.bcast_S_S1536x1536 (constant Cert.ReferenceIdeal.S_ .f32 0x3F800000#32))
        (Host.tanh (mulf (broadcastInDim S1536x1536 ![] Cert.ReferenceIdeal.Facts₀.bcast_S_S1536x1536 (constant Cert.ReferenceIdeal.S_ .f32 0x3F4C422A#32))
          (addf z (mulf (mulf (mulf (broadcastInDim S1536x1536 ![] Cert.ReferenceIdeal.Facts₀.bcast_S_S1536x1536 (constant Cert.ReferenceIdeal.S_ .f32 0x3D372713#32)) z) z) z))))) := by
  funext i
  unfold k0_pay1
  pointwise

end Cert.RingProof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.SameText
public import proofs.«01_k».proof.Proof.Launch
public import proofs.«01_k».proof.Proof.Value
public import Idealize.ShloMosaic.Adequacy
public import Idealize.ShloMosaic.Init

@[expose] public section

noncomputable section

namespace Cert.Proof

open Idealize.ShloMosaic Idealize.SL.Sem
open Cert.RingProof

/-- The kernel as idealized runs, leaves its arguments unchanged and its counters at zero. -/
theorem frame_kernelIdeal : Cert.quiescent_KernelIdeal := fun m g _ =>
  (θ_run _ _ _).mono
    (fun _ h => ⟨fun c => ⟨(h.1 c (0 : Fin 3)).trans (finalA_a m g c), (h.1 c (1 : Fin 3)).trans (finalA_b m g c)⟩, h.2⟩)
    (run_main (F := Ideal) m g)

/-- So does the kernel as printed, which is the same text at bit-exact floats. -/
theorem frame_kernel : Cert.quiescent_Kernel := fun m g _ => by
  rw [defs_same]
  exact (θ_run _ _ _).mono
    (fun _ h => ⟨fun c => ⟨(h.1 c (0 : Fin 3)).trans (finalA_a m g c), (h.1 c (1 : Fin 3)).trans (finalA_b m g c)⟩, h.2⟩)
    (run_main (F := Bits) m g)

/-- So does the reference. -/
theorem frame_reference : Cert.quiescent_ReferenceIdeal := fun m g _ =>
  (θ_run _ _ _).mono
    (fun r h => ⟨fun c => (h c).2, Idealize.ShloMosaic.sem_eq_zero_of_no_sems (by decide) r.2⟩)
    (Cert.ReferenceIdeal.Value.run (F := Ideal) m g)

/-- At exact arithmetic every device ends with the reference's result. -/
theorem value : Cert.algebraic_KernelIdeal_ReferenceIdeal := fun m g m' g' _ hagree =>
  ⟨_, (θ_run _ _ _).mono
      (fun _ h c => ⟨(h.1 c (2 : Fin 3)).trans ((finalA_o m g c).trans ((congrArg Cert.KernelIdeal.Gen.k0_pay1
          (funext fun i => (Zf_total m g c i).trans
            (total_eq m g _ _ (fun c => (hagree c).1) (fun c => (hagree c).2) i))).trans (activation _))),
        (h.1 c (0 : Fin 3)).trans (finalA_a m g c), (h.1 c (1 : Fin 3)).trans (finalA_b m g c)⟩)
      (run_main (F := Ideal) m g),
    (θ_run _ _ _).mono (fun _ h => h 0) (Cert.ReferenceIdeal.Value.run (F := Ideal) m' g')⟩

/-- All the claims together. -/
theorem claim : Cert.Claim :=
  ⟨Cert.Kernel.Gen.facts, Cert.KernelIdeal.Gen.facts, Cert.ReferenceIdeal.Gen.facts,
    frame_kernel, frame_kernelIdeal, frame_reference, trivial, value⟩

end Cert.Proof

end
